-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S576x128 : Shape := ⟨2, ![576, 128]⟩
abbrev S512x128 : Shape := ⟨2, ![512, 128]⟩
abbrev S32 : Shape := ⟨1, ![32]⟩
abbrev S256x128 : Shape := ⟨2, ![256, 128]⟩
abbrev S_ : Shape := ⟨0, ![]⟩
abbrev S1 : Shape := ⟨1, ![1]⟩
abbrev S128x128 : Shape := ⟨2, ![128, 128]⟩
abbrev S64x128 : Shape := ⟨2, ![64, 128]⟩

abbrev nBuf : Space → Nat
  | .hbm => 2
  | .vmem => 15
  | .smem => 0
  | _ => 0

abbrev bufTy : (tb : Table) → Fin (tcTables nBuf tb) → BufTy
  | .hbm, ⟨0, _⟩ => ⟨S512x512, .bf16⟩
  | .hbm, ⟨1, _⟩ => ⟨S512x512, .f32⟩
  | .local _ .vmem, ⟨0, _⟩ => ⟨S512x512, .bf16⟩
  | .local _ .vmem, ⟨1, _⟩ => ⟨S512x512, .f32⟩
  | .local _ .vmem, ⟨2, _⟩ => ⟨S512x512, .f32⟩
  | .local _ .vmem, ⟨3, _⟩ => ⟨S576x128, .bf16⟩
  | .local _ .vmem, ⟨4, _⟩ => ⟨S576x128, .bf16⟩
  | .local _ .vmem, ⟨5, _⟩ => ⟨S512x128, .bf16⟩
  | .local _ .vmem, ⟨6, _⟩ => ⟨S576x128, .bf16⟩
  | .local _ .vmem, ⟨7, _⟩ => ⟨S576x128, .bf16⟩
  | .local _ .vmem, ⟨8, _⟩ => ⟨S512x128, .bf16⟩
  | .local _ .vmem, ⟨9, _⟩ => ⟨S576x128, .bf16⟩
  | .local _ .vmem, ⟨10, _⟩ => ⟨S576x128, .bf16⟩
  | .local _ .vmem, ⟨11, _⟩ => ⟨S512x128, .bf16⟩
  | .local _ .vmem, ⟨12, _⟩ => ⟨S576x128, .bf16⟩
  | .local _ .vmem, ⟨13, _⟩ => ⟨S576x128, .bf16⟩
  | .local _ .vmem, ⟨14, _⟩ => ⟨S512x128, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let v59 : BitVec 32 := Scalar.subi c1_i32_24 v58
  let c256_i32 : BitVec 32 := 256#32
  let v60 : BitVec 32 := Scalar.muli v59 c256_i32
  let v61 : Index := Scalar.indexCast v60
  let c0 : Index := 0#32
  ![v61.toNat, 0]
def k0_off2 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v67 : BitVec 32 := Scalar.andi v19 c1_i32_27
  let v68 : BitVec 32 := Scalar.subi c1_i32_28 v67
  let c256_i32_29 : BitVec 32 := 256#32
  let v69 : BitVec 32 := Scalar.muli v68 c256_i32_29
  let v70 : Index := Scalar.indexCast v69
  let c128 : Index := 128#32
  ![v70.toNat, 128]
def k0_off3 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let v76 : BitVec 32 := Scalar.subi c1_i32_32 v58
  let c256_i32_33 : BitVec 32 := 256#32
  let v77 : BitVec 32 := Scalar.muli v76 c256_i32_33
  let v78 : Index := Scalar.indexCast v77
  let c256 : Index := 256#32
  ![v78.toNat, 256]
def k0_off4 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_36 : BitVec 32 := 1#32
  let v84 : BitVec 32 := Scalar.andi v19 c1_i32_36
  let v85 : BitVec 32 := Scalar.subi c1_i32_37 v84
  let c256_i32_38 : BitVec 32 := 256#32
  let v86 : BitVec 32 := Scalar.muli v85 c256_i32_38
  let v87 : Index := Scalar.indexCast v86
  let c384 : Index := 384#32
  ![v87.toNat, 384]
def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_42 : BitVec 32 := 8#32
  let v95 : BitVec 32 := Scalar.muli v19 c8_i32_42
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_43 : BitVec 32 := 2#32
  let v96 : BitVec 32 := Scalar.muli v46 c2_i32_43
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_41 : BitVec 32 := 1#32
  let v94 : BitVec 32 := Scalar.xori v58 c1_i32_41
  let c1_i32_44 : BitVec 32 := 1#32
  let v98 : BitVec 32 := Scalar.andi v46 c1_i32_44
  let v99 : BitVec 32 := Scalar.xori v94 v98
  let v100 : BitVec 32 := Scalar.addi v97 v99
  v100.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_47 : BitVec 32 := 8#32
  let v102 : BitVec 32 := Scalar.muli v19 c8_i32_47
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_46 : BitVec 32 := 1#32
  let v101 : BitVec 32 := Scalar.xori v46 c1_i32_46
  let c2_i32_48 : BitVec 32 := 2#32
  let v103 : BitVec 32 := Scalar.muli v101 c2_i32_48
  let v104 : BitVec 32 := Scalar.addi v102 v103
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_49 : BitVec 32 := 1#32
  let v105 : BitVec 32 := Scalar.andi v101 c1_i32_49
  let v106 : BitVec 32 := Scalar.xori v58 v105
  let v107 : BitVec 32 := Scalar.addi v104 v106
  v107.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v108 : BitVec 32 := Scalar.xori v19 c1_i32_51
  let c8_i32_52 : BitVec 32 := 8#32
  let v109 : BitVec 32 := Scalar.muli v108 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_53 : BitVec 32 := 2#32
  let v110 : BitVec 32 := Scalar.muli v46 c2_i32_53
  let v111 : BitVec 32 := Scalar.addi v109 v110
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_54 : BitVec 32 := 1#32
  let v112 : BitVec 32 := Scalar.andi v46 c1_i32_54
  let v113 : BitVec 32 := Scalar.xori v58 v112
  let v114 : BitVec 32 := Scalar.addi v111 v113
  v114.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_57 : BitVec 32 := 8#32
  let v116 : BitVec 32 := Scalar.muli v19 c8_i32_57
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_56 : BitVec 32 := 2#32
  let v115 : BitVec 32 := Scalar.xori v46 c2_i32_56
  let c2_i32_58 : BitVec 32 := 2#32
  let v117 : BitVec 32 := Scalar.muli v115 c2_i32_58
  let v118 : BitVec 32 := Scalar.addi v116 v117
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_59 : BitVec 32 := 1#32
  let v119 : BitVec 32 := Scalar.andi v115 c1_i32_59
  let v120 : BitVec 32 := Scalar.xori v58 v119
  let v121 : BitVec 32 := Scalar.addi v118 v120
  v121.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_61 : BitVec 32 := 2#32
  let v122 : BitVec 32 := Scalar.xori v19 c2_i32_61
  let c8_i32_62 : BitVec 32 := 8#32
  let v123 : BitVec 32 := Scalar.muli v122 c8_i32_62
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_63 : BitVec 32 := 2#32
  let v124 : BitVec 32 := Scalar.muli v46 c2_i32_63
  let v125 : BitVec 32 := Scalar.addi v123 v124
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_64 : BitVec 32 := 1#32
  let v126 : BitVec 32 := Scalar.andi v46 c1_i32_64
  let v127 : BitVec 32 := Scalar.xori v58 v126
  let v128 : BitVec 32 := Scalar.addi v125 v127
  v128.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_67 : BitVec 32 := 8#32
  let v130 : BitVec 32 := Scalar.muli v19 c8_i32_67
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_68 : BitVec 32 := 2#32
  let v131 : BitVec 32 := Scalar.muli v46 c2_i32_68
  let v132 : BitVec 32 := Scalar.addi v130 v131
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_66 : BitVec 32 := 1#32
  let v129 : BitVec 32 := Scalar.xori v58 c1_i32_66
  let c1_i32_69 : BitVec 32 := 1#32
  let v133 : BitVec 32 := Scalar.andi v46 c1_i32_69
  let v134 : BitVec 32 := Scalar.xori v129 v133
  let v135 : BitVec 32 := Scalar.addi v132 v134
  v135.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_76 : BitVec 32 := 1#32
  let v142 : BitVec 32 := Scalar.xori v19 c1_i32_76
  let c8_i32_77 : BitVec 32 := 8#32
  let v143 : BitVec 32 := Scalar.muli v142 c8_i32_77
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_78 : BitVec 32 := 2#32
  let v144 : BitVec 32 := Scalar.muli v46 c2_i32_78
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_79 : BitVec 32 := 1#32
  let v146 : BitVec 32 := Scalar.andi v46 c1_i32_79
  let v147 : BitVec 32 := Scalar.xori v58 v146
  let v148 : BitVec 32 := Scalar.addi v145 v147
  v148.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_87 : BitVec 32 := 8#32
  let v156 : BitVec 32 := Scalar.muli v19 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v157 : BitVec 32 := Scalar.muli v46 c2_i32_88
  let v158 : BitVec 32 := Scalar.addi v156 v157
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_86 : BitVec 32 := 1#32
  let v155 : BitVec 32 := Scalar.xori v58 c1_i32_86
  let c1_i32_89 : BitVec 32 := 1#32
  let v159 : BitVec 32 := Scalar.andi v46 c1_i32_89
  let v160 : BitVec 32 := Scalar.xori v155 v159
  let v161 : BitVec 32 := Scalar.addi v158 v160
  v161.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_95 : BitVec 32 := 1#32
  let v168 : BitVec 32 := Scalar.xori v19 c1_i32_95
  let c8_i32_96 : BitVec 32 := 8#32
  let v169 : BitVec 32 := Scalar.muli v168 c8_i32_96
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_97 : BitVec 32 := 2#32
  let v170 : BitVec 32 := Scalar.muli v46 c2_i32_97
  let v171 : BitVec 32 := Scalar.addi v169 v170
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_98 : BitVec 32 := 1#32
  let v172 : BitVec 32 := Scalar.andi v46 c1_i32_98
  let v173 : BitVec 32 := Scalar.xori v58 v172
  let v174 : BitVec 32 := Scalar.addi v171 v173
  v174.toNat
def k0_off5 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let v187 : Index := Scalar.indexCast v186
  let c0_112 : Index := 0#32
  ![v187.toNat, 0]
def k0_off6 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_121 : BitVec 32 := 1#32
  let c1_i32_116 : BitVec 32 := 1#32
  let v198 : BitVec 32 := Scalar.andi v46 c1_i32_116
  let v206 : BitVec 32 := Scalar.subi c1_i32_121 v198
  let c128_i32 : BitVec 32 := 128#32
  let v207 : BitVec 32 := Scalar.muli v206 c128_i32
  let v208 : BitVec 32 := Scalar.addi v186 v207
  let v209 : Index := Scalar.indexCast v208
  let c0_122 : Index := 0#32
  ![v209.toNat, 0]
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_118 : BitVec 32 := 8#32
  let v200 : BitVec 32 := Scalar.muli v19 c8_i32_118
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_117 : BitVec 32 := 1#32
  let v199 : BitVec 32 := Scalar.xori v46 c1_i32_117
  let c2_i32_119 : BitVec 32 := 2#32
  let v201 : BitVec 32 := Scalar.muli v199 c2_i32_119
  let v202 : BitVec 32 := Scalar.addi v200 v201
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_120 : BitVec 32 := 1#32
  let v203 : BitVec 32 := Scalar.andi v199 c1_i32_120
  let v204 : BitVec 32 := Scalar.xori v58 v203
  let v205 : BitVec 32 := Scalar.addi v202 v204
  v205.toNat
def k0_off7 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let v228 : Index := Scalar.indexCast v227
  let c128_140 : Index := 128#32
  ![v228.toNat, 128]
def k0_off8 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c1_i32_148 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let v246 : BitVec 32 := Scalar.subi c1_i32_148 v58
  let c128_i32_149 : BitVec 32 := 128#32
  let v247 : BitVec 32 := Scalar.muli v246 c128_i32_149
  let v248 : BitVec 32 := Scalar.addi v227 v247
  let v249 : Index := Scalar.indexCast v248
  let c128_150 : Index := 128#32
  ![v249.toNat, 128]
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_145 : BitVec 32 := 8#32
  let v240 : BitVec 32 := Scalar.muli v19 c8_i32_145
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_146 : BitVec 32 := 2#32
  let v241 : BitVec 32 := Scalar.muli v46 c2_i32_146
  let v242 : BitVec 32 := Scalar.addi v240 v241
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_144 : BitVec 32 := 1#32
  let v239 : BitVec 32 := Scalar.xori v58 c1_i32_144
  let c1_i32_147 : BitVec 32 := 1#32
  let v243 : BitVec 32 := Scalar.andi v46 c1_i32_147
  let v244 : BitVec 32 := Scalar.xori v239 v243
  let v245 : BitVec 32 := Scalar.addi v242 v244
  v245.toNat
def k0_off9 (d0 : Dev nD) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let v267 : Index := Scalar.indexCast v266
  let c256_166 : Index := 256#32
  ![v267.toNat, 256]
def k0_off10 (d0 : Dev nD) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let c1_i32_175 : BitVec 32 := 1#32
  let c1_i32_170 : BitVec 32 := 1#32
  let v278 : BitVec 32 := Scalar.andi v46 c1_i32_170
  let v286 : BitVec 32 := Scalar.subi c1_i32_175 v278
  let c128_i32_176 : BitVec 32 := 128#32
  let v287 : BitVec 32 := Scalar.muli v286 c128_i32_176
  let v288 : BitVec 32 := Scalar.addi v266 v287
  let v289 : Index := Scalar.indexCast v288
  let c256_177 : Index := 256#32
  ![v289.toNat, 256]
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_172 : BitVec 32 := 8#32
  let v280 : BitVec 32 := Scalar.muli v19 c8_i32_172
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_171 : BitVec 32 := 1#32
  let v279 : BitVec 32 := Scalar.xori v46 c1_i32_171
  let c2_i32_173 : BitVec 32 := 2#32
  let v281 : BitVec 32 := Scalar.muli v279 c2_i32_173
  let v282 : BitVec 32 := Scalar.addi v280 v281
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_174 : BitVec 32 := 1#32
  let v283 : BitVec 32 := Scalar.andi v279 c1_i32_174
  let v284 : BitVec 32 := Scalar.xori v58 v283
  let v285 : BitVec 32 := Scalar.addi v282 v284
  v285.toNat
def k0_off11 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let v308 : Index := Scalar.indexCast v307
  let c384_194 : Index := 384#32
  ![v308.toNat, 384]
def k0_off12 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let c1_i32_202 : BitVec 32 := 1#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let v326 : BitVec 32 := Scalar.subi c1_i32_202 v58
  let c128_i32_203 : BitVec 32 := 128#32
  let v327 : BitVec 32 := Scalar.muli v326 c128_i32_203
  let v328 : BitVec 32 := Scalar.addi v307 v327
  let v329 : Index := Scalar.indexCast v328
  let c384_204 : Index := 384#32
  ![v329.toNat, 384]
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_199 : BitVec 32 := 8#32
  let v320 : BitVec 32 := Scalar.muli v19 c8_i32_199
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_200 : BitVec 32 := 2#32
  let v321 : BitVec 32 := Scalar.muli v46 c2_i32_200
  let v322 : BitVec 32 := Scalar.addi v320 v321
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_198 : BitVec 32 := 1#32
  let v319 : BitVec 32 := Scalar.xori v58 c1_i32_198
  let c1_i32_201 : BitVec 32 := 1#32
  let v323 : BitVec 32 := Scalar.andi v46 c1_i32_201
  let v324 : BitVec 32 := Scalar.xori v319 v323
  let v325 : BitVec 32 := Scalar.addi v322 v324
  v325.toNat
def k0_off13 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let v348 : Index := Scalar.indexCast v347
  let c0_220 : Index := 0#32
  ![v348.toNat, 0]
def k0_off14 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let c1_i32_229 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_224 : BitVec 32 := 1#32
  let v357 : BitVec 32 := Scalar.andi v19 c1_i32_224
  let v365 : BitVec 32 := Scalar.subi c1_i32_229 v357
  let c64_i32 : BitVec 32 := 64#32
  let v366 : BitVec 32 := Scalar.muli v365 c64_i32
  let v367 : BitVec 32 := Scalar.addi v347 v366
  let v368 : Index := Scalar.indexCast v367
  let c0_230 : Index := 0#32
  ![v368.toNat, 0]
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_225 : BitVec 32 := 1#32
  let v358 : BitVec 32 := Scalar.xori v19 c1_i32_225
  let c8_i32_226 : BitVec 32 := 8#32
  let v359 : BitVec 32 := Scalar.muli v358 c8_i32_226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_227 : BitVec 32 := 2#32
  let v360 : BitVec 32 := Scalar.muli v46 c2_i32_227
  let v361 : BitVec 32 := Scalar.addi v359 v360
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_228 : BitVec 32 := 1#32
  let v362 : BitVec 32 := Scalar.andi v46 c1_i32_228
  let v363 : BitVec 32 := Scalar.xori v58 v362
  let v364 : BitVec 32 := Scalar.addi v361 v363
  v364.toNat
def k0_off15 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let v386 : Index := Scalar.indexCast v385
  let c128_245 : Index := 128#32
  ![v386.toNat, 128]
def k0_off16 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let c1_i32_254 : BitVec 32 := 1#32
  let c1_i32_249 : BitVec 32 := 1#32
  let v395 : BitVec 32 := Scalar.andi v46 c1_i32_249
  let v403 : BitVec 32 := Scalar.subi c1_i32_254 v395
  let c64_i32_255 : BitVec 32 := 64#32
  let v404 : BitVec 32 := Scalar.muli v403 c64_i32_255
  let v405 : BitVec 32 := Scalar.addi v385 v404
  let v406 : Index := Scalar.indexCast v405
  let c128_256 : Index := 128#32
  ![v406.toNat, 128]
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_251 : BitVec 32 := 8#32
  let v397 : BitVec 32 := Scalar.muli v19 c8_i32_251
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_250 : BitVec 32 := 1#32
  let v396 : BitVec 32 := Scalar.xori v46 c1_i32_250
  let c2_i32_252 : BitVec 32 := 2#32
  let v398 : BitVec 32 := Scalar.muli v396 c2_i32_252
  let v399 : BitVec 32 := Scalar.addi v397 v398
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_253 : BitVec 32 := 1#32
  let v400 : BitVec 32 := Scalar.andi v396 c1_i32_253
  let v401 : BitVec 32 := Scalar.xori v58 v400
  let v402 : BitVec 32 := Scalar.addi v399 v401
  v402.toNat
def k0_off17 (d0 : Dev nD) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let c1_i32_270 : BitVec 32 := 1#32
  let v422 : BitVec 32 := Scalar.andi v46 c1_i32_270
  let c128_i32_271 : BitVec 32 := 128#32
  let v423 : BitVec 32 := Scalar.muli v422 c128_i32_271
  let v424 : BitVec 32 := Scalar.addi v266 v423
  let v425 : Index := Scalar.indexCast v424
  let c256_272 : Index := 256#32
  ![v425.toNat, 256]
def k0_off18 (d0 : Dev nD) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let c1_i32_270 : BitVec 32 := 1#32
  let v422 : BitVec 32 := Scalar.andi v46 c1_i32_270
  let c128_i32_271 : BitVec 32 := 128#32
  let v423 : BitVec 32 := Scalar.muli v422 c128_i32_271
  let v424 : BitVec 32 := Scalar.addi v266 v423
  let c1_i32_281 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_276 : BitVec 32 := 1#32
  let v434 : BitVec 32 := Scalar.andi v19 c1_i32_276
  let v442 : BitVec 32 := Scalar.subi c1_i32_281 v434
  let c64_i32_282 : BitVec 32 := 64#32
  let v443 : BitVec 32 := Scalar.muli v442 c64_i32_282
  let v444 : BitVec 32 := Scalar.addi v424 v443
  let v445 : Index := Scalar.indexCast v444
  let c256_283 : Index := 256#32
  ![v445.toNat, 256]
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_277 : BitVec 32 := 1#32
  let v435 : BitVec 32 := Scalar.xori v19 c1_i32_277
  let c8_i32_278 : BitVec 32 := 8#32
  let v436 : BitVec 32 := Scalar.muli v435 c8_i32_278
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_279 : BitVec 32 := 2#32
  let v437 : BitVec 32 := Scalar.muli v46 c2_i32_279
  let v438 : BitVec 32 := Scalar.addi v436 v437
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_280 : BitVec 32 := 1#32
  let v439 : BitVec 32 := Scalar.andi v46 c1_i32_280
  let v440 : BitVec 32 := Scalar.xori v58 v439
  let v441 : BitVec 32 := Scalar.addi v438 v440
  v441.toNat
def k0_off19 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_297 : BitVec 32 := 128#32
  let v461 : BitVec 32 := Scalar.muli v58 c128_i32_297
  let v462 : BitVec 32 := Scalar.addi v307 v461
  let v463 : Index := Scalar.indexCast v462
  let c384_298 : Index := 384#32
  ![v463.toNat, 384]
def k0_off20 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_297 : BitVec 32 := 128#32
  let v461 : BitVec 32 := Scalar.muli v58 c128_i32_297
  let v462 : BitVec 32 := Scalar.addi v307 v461
  let c1_i32_307 : BitVec 32 := 1#32
  let c1_i32_302 : BitVec 32 := 1#32
  let v472 : BitVec 32 := Scalar.andi v46 c1_i32_302
  let v480 : BitVec 32 := Scalar.subi c1_i32_307 v472
  let c64_i32_308 : BitVec 32 := 64#32
  let v481 : BitVec 32 := Scalar.muli v480 c64_i32_308
  let v482 : BitVec 32 := Scalar.addi v462 v481
  let v483 : Index := Scalar.indexCast v482
  let c384_309 : Index := 384#32
  ![v483.toNat, 384]
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_304 : BitVec 32 := 8#32
  let v474 : BitVec 32 := Scalar.muli v19 c8_i32_304
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_303 : BitVec 32 := 1#32
  let v473 : BitVec 32 := Scalar.xori v46 c1_i32_303
  let c2_i32_305 : BitVec 32 := 2#32
  let v475 : BitVec 32 := Scalar.muli v473 c2_i32_305
  let v476 : BitVec 32 := Scalar.addi v474 v475
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_306 : BitVec 32 := 1#32
  let v477 : BitVec 32 := Scalar.andi v473 c1_i32_306
  let v478 : BitVec 32 := Scalar.xori v58 v477
  let v479 : BitVec 32 := Scalar.addi v476 v478
  v479.toNat
def k0_off21 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_323 : BitVec 32 := 1#32
  let v499 : BitVec 32 := Scalar.andi v19 c1_i32_323
  let c64_i32_324 : BitVec 32 := 64#32
  let v500 : BitVec 32 := Scalar.muli v499 c64_i32_324
  let v501 : BitVec 32 := Scalar.addi v347 v500
  let v502 : Index := Scalar.indexCast v501
  let c0_325 : Index := 0#32
  ![v502.toNat, 0]
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_330 : BitVec 32 := 8#32
  let v512 : BitVec 32 := Scalar.muli v19 c8_i32_330
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_329 : BitVec 32 := 2#32
  let v511 : BitVec 32 := Scalar.xori v46 c2_i32_329
  let c2_i32_331 : BitVec 32 := 2#32
  let v513 : BitVec 32 := Scalar.muli v511 c2_i32_331
  let v514 : BitVec 32 := Scalar.addi v512 v513
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_332 : BitVec 32 := 1#32
  let v515 : BitVec 32 := Scalar.andi v511 c1_i32_332
  let v516 : BitVec 32 := Scalar.xori v58 v515
  let v517 : BitVec 32 := Scalar.addi v514 v516
  v517.toNat
def k0_off22 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let c1_i32_345 : BitVec 32 := 1#32
  let v534 : BitVec 32 := Scalar.andi v46 c1_i32_345
  let c64_i32_346 : BitVec 32 := 64#32
  let v535 : BitVec 32 := Scalar.muli v534 c64_i32_346
  let v536 : BitVec 32 := Scalar.addi v385 v535
  let v537 : Index := Scalar.indexCast v536
  let c128_347 : Index := 128#32
  ![v537.toNat, 128]
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_351 : BitVec 32 := 2#32
  let v546 : BitVec 32 := Scalar.xori v19 c2_i32_351
  let c8_i32_352 : BitVec 32 := 8#32
  let v547 : BitVec 32 := Scalar.muli v546 c8_i32_352
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_353 : BitVec 32 := 2#32
  let v548 : BitVec 32 := Scalar.muli v46 c2_i32_353
  let v549 : BitVec 32 := Scalar.addi v547 v548
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_354 : BitVec 32 := 1#32
  let v550 : BitVec 32 := Scalar.andi v46 c1_i32_354
  let v551 : BitVec 32 := Scalar.xori v58 v550
  let v552 : BitVec 32 := Scalar.addi v549 v551
  v552.toNat
def k0_off23 (d0 : Dev nD) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let c1_i32_270 : BitVec 32 := 1#32
  let v422 : BitVec 32 := Scalar.andi v46 c1_i32_270
  let c128_i32_271 : BitVec 32 := 128#32
  let v423 : BitVec 32 := Scalar.muli v422 c128_i32_271
  let v424 : BitVec 32 := Scalar.addi v266 v423
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_369 : BitVec 32 := 1#32
  let v569 : BitVec 32 := Scalar.andi v19 c1_i32_369
  let c64_i32_370 : BitVec 32 := 64#32
  let v570 : BitVec 32 := Scalar.muli v569 c64_i32_370
  let v571 : BitVec 32 := Scalar.addi v424 v570
  let v572 : Index := Scalar.indexCast v571
  let c256_371 : Index := 256#32
  ![v572.toNat, 256]
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_376 : BitVec 32 := 8#32
  let v582 : BitVec 32 := Scalar.muli v19 c8_i32_376
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_375 : BitVec 32 := 2#32
  let v581 : BitVec 32 := Scalar.xori v46 c2_i32_375
  let c2_i32_377 : BitVec 32 := 2#32
  let v583 : BitVec 32 := Scalar.muli v581 c2_i32_377
  let v584 : BitVec 32 := Scalar.addi v582 v583
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_378 : BitVec 32 := 1#32
  let v585 : BitVec 32 := Scalar.andi v581 c1_i32_378
  let v586 : BitVec 32 := Scalar.xori v58 v585
  let v587 : BitVec 32 := Scalar.addi v584 v586
  v587.toNat
def k0_off24 (d0 : Dev nD) : Fin 2 → Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_297 : BitVec 32 := 128#32
  let v461 : BitVec 32 := Scalar.muli v58 c128_i32_297
  let v462 : BitVec 32 := Scalar.addi v307 v461
  let c1_i32_393 : BitVec 32 := 1#32
  let v604 : BitVec 32 := Scalar.andi v46 c1_i32_393
  let c64_i32_394 : BitVec 32 := 64#32
  let v605 : BitVec 32 := Scalar.muli v604 c64_i32_394
  let v606 : BitVec 32 := Scalar.addi v462 v605
  let v607 : Index := Scalar.indexCast v606
  let c384_395 : Index := 384#32
  ![v607.toNat, 384]
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_399 : BitVec 32 := 2#32
  let v616 : BitVec 32 := Scalar.xori v19 c2_i32_399
  let c8_i32_400 : BitVec 32 := 8#32
  let v617 : BitVec 32 := Scalar.muli v616 c8_i32_400
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_401 : BitVec 32 := 2#32
  let v618 : BitVec 32 := Scalar.muli v46 c2_i32_401
  let v619 : BitVec 32 := Scalar.addi v617 v618
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_402 : BitVec 32 := 1#32
  let v620 : BitVec 32 := Scalar.andi v46 c1_i32_402
  let v621 : BitVec 32 := Scalar.xori v58 v620
  let v622 : BitVec 32 := Scalar.addi v619 v621
  v622.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_421 : BitVec 32 := 2#32
  let v648 : BitVec 32 := Scalar.xori v19 c2_i32_421
  let c8_i32_422 : BitVec 32 := 8#32
  let v649 : BitVec 32 := Scalar.muli v648 c8_i32_422
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_423 : BitVec 32 := 2#32
  let v650 : BitVec 32 := Scalar.muli v46 c2_i32_423
  let v651 : BitVec 32 := Scalar.addi v649 v650
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_424 : BitVec 32 := 1#32
  let v652 : BitVec 32 := Scalar.andi v46 c1_i32_424
  let v653 : BitVec 32 := Scalar.xori v58 v652
  let v654 : BitVec 32 := Scalar.addi v651 v653
  v654.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_442 : BitVec 32 := 8#32
  let v681 : BitVec 32 := Scalar.muli v19 c8_i32_442
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_441 : BitVec 32 := 2#32
  let v680 : BitVec 32 := Scalar.xori v46 c2_i32_441
  let c2_i32_443 : BitVec 32 := 2#32
  let v682 : BitVec 32 := Scalar.muli v680 c2_i32_443
  let v683 : BitVec 32 := Scalar.addi v681 v682
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_444 : BitVec 32 := 1#32
  let v684 : BitVec 32 := Scalar.andi v680 c1_i32_444
  let v685 : BitVec 32 := Scalar.xori v58 v684
  let v686 : BitVec 32 := Scalar.addi v683 v685
  v686.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_463 : BitVec 32 := 2#32
  let v712 : BitVec 32 := Scalar.xori v19 c2_i32_463
  let c8_i32_464 : BitVec 32 := 8#32
  let v713 : BitVec 32 := Scalar.muli v712 c8_i32_464
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_465 : BitVec 32 := 2#32
  let v714 : BitVec 32 := Scalar.muli v46 c2_i32_465
  let v715 : BitVec 32 := Scalar.addi v713 v714
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_466 : BitVec 32 := 1#32
  let v716 : BitVec 32 := Scalar.andi v46 c1_i32_466
  let v717 : BitVec 32 := Scalar.xori v58 v716
  let v718 : BitVec 32 := Scalar.addi v715 v717
  v718.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_486 : BitVec 32 := 8#32
  let v745 : BitVec 32 := Scalar.muli v19 c8_i32_486
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_485 : BitVec 32 := 2#32
  let v744 : BitVec 32 := Scalar.xori v46 c2_i32_485
  let c2_i32_487 : BitVec 32 := 2#32
  let v746 : BitVec 32 := Scalar.muli v744 c2_i32_487
  let v747 : BitVec 32 := Scalar.addi v745 v746
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_488 : BitVec 32 := 1#32
  let v748 : BitVec 32 := Scalar.andi v744 c1_i32_488
  let v749 : BitVec 32 := Scalar.xori v58 v748
  let v750 : BitVec 32 := Scalar.addi v747 v749
  v750.toNat
def k0_off25 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_323 : BitVec 32 := 1#32
  let v499 : BitVec 32 := Scalar.andi v19 c1_i32_323
  let c64_i32_324 : BitVec 32 := 64#32
  let v500 : BitVec 32 := Scalar.muli v499 c64_i32_324
  let v501 : BitVec 32 := Scalar.addi v347 v500
  let v777 : Index := Scalar.indexCast v501
  let c0_507 : Index := 0#32
  ![v777.toNat, 0]
def k0_off26 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_323 : BitVec 32 := 1#32
  let v499 : BitVec 32 := Scalar.andi v19 c1_i32_323
  let c64_i32_324 : BitVec 32 := 64#32
  let v500 : BitVec 32 := Scalar.muli v499 c64_i32_324
  let v501 : BitVec 32 := Scalar.addi v347 v500
  let c0_i32_514 : BitVec 32 := 0#32
  ![v501.toNat, 0]
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_508 : BitVec 32 := 1#32
  let v781 : BitVec 32 := Scalar.xori v19 c1_i32_508
  let c8_i32_509 : BitVec 32 := 8#32
  let v782 : BitVec 32 := Scalar.muli v781 c8_i32_509
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_510 : BitVec 32 := 2#32
  let v783 : BitVec 32 := Scalar.muli v46 c2_i32_510
  let v784 : BitVec 32 := Scalar.addi v782 v783
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_511 : BitVec 32 := 1#32
  let v785 : BitVec 32 := Scalar.andi v46 c1_i32_511
  let v786 : BitVec 32 := Scalar.xori v58 v785
  let v787 : BitVec 32 := Scalar.addi v784 v786
  v787.toNat
def k0_off27 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let c1_i32_345 : BitVec 32 := 1#32
  let v534 : BitVec 32 := Scalar.andi v46 c1_i32_345
  let c64_i32_346 : BitVec 32 := 64#32
  let v535 : BitVec 32 := Scalar.muli v534 c64_i32_346
  let v536 : BitVec 32 := Scalar.addi v385 v535
  let v808 : Index := Scalar.indexCast v536
  let c0_526 : Index := 0#32
  ![v808.toNat, 0]
def k0_off28 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let c1_i32_345 : BitVec 32 := 1#32
  let v534 : BitVec 32 := Scalar.andi v46 c1_i32_345
  let c64_i32_346 : BitVec 32 := 64#32
  let v535 : BitVec 32 := Scalar.muli v534 c64_i32_346
  let v536 : BitVec 32 := Scalar.addi v385 v535
  let c0_i32_532 : BitVec 32 := 0#32
  ![v536.toNat, 0]
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_528 : BitVec 32 := 8#32
  let v813 : BitVec 32 := Scalar.muli v19 c8_i32_528
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_527 : BitVec 32 := 1#32
  let v812 : BitVec 32 := Scalar.xori v46 c1_i32_527
  let c2_i32_529 : BitVec 32 := 2#32
  let v814 : BitVec 32 := Scalar.muli v812 c2_i32_529
  let v815 : BitVec 32 := Scalar.addi v813 v814
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_530 : BitVec 32 := 1#32
  let v816 : BitVec 32 := Scalar.andi v812 c1_i32_530
  let v817 : BitVec 32 := Scalar.xori v58 v816
  let v818 : BitVec 32 := Scalar.addi v815 v817
  v818.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_545 : BitVec 32 := 1#32
  let v843 : BitVec 32 := Scalar.xori v19 c1_i32_545
  let c8_i32_546 : BitVec 32 := 8#32
  let v844 : BitVec 32 := Scalar.muli v843 c8_i32_546
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_547 : BitVec 32 := 2#32
  let v845 : BitVec 32 := Scalar.muli v46 c2_i32_547
  let v846 : BitVec 32 := Scalar.addi v844 v845
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_548 : BitVec 32 := 1#32
  let v847 : BitVec 32 := Scalar.andi v46 c1_i32_548
  let v848 : BitVec 32 := Scalar.xori v58 v847
  let v849 : BitVec 32 := Scalar.addi v846 v848
  v849.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_564 : BitVec 32 := 8#32
  let v875 : BitVec 32 := Scalar.muli v19 c8_i32_564
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_563 : BitVec 32 := 1#32
  let v874 : BitVec 32 := Scalar.xori v46 c1_i32_563
  let c2_i32_565 : BitVec 32 := 2#32
  let v876 : BitVec 32 := Scalar.muli v874 c2_i32_565
  let v877 : BitVec 32 := Scalar.addi v875 v876
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_566 : BitVec 32 := 1#32
  let v878 : BitVec 32 := Scalar.andi v874 c1_i32_566
  let v879 : BitVec 32 := Scalar.xori v58 v878
  let v880 : BitVec 32 := Scalar.addi v877 v879
  v880.toNat
def k0_off29 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c1_i32_218 : BitVec 32 := 1#32
  let v345 : BitVec 32 := Scalar.andi v46 c1_i32_218
  let c128_i32_219 : BitVec 32 := 128#32
  let v346 : BitVec 32 := Scalar.muli v345 c128_i32_219
  let v347 : BitVec 32 := Scalar.addi v186 v346
  let c0_i32_579 : BitVec 32 := 0#32
  ![v347.toNat, 0]
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_575 : BitVec 32 := 8#32
  let v892 : BitVec 32 := Scalar.muli v19 c8_i32_575
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_574 : BitVec 32 := 1#32
  let v891 : BitVec 32 := Scalar.xori v46 c1_i32_574
  let c2_i32_576 : BitVec 32 := 2#32
  let v893 : BitVec 32 := Scalar.muli v891 c2_i32_576
  let v894 : BitVec 32 := Scalar.addi v892 v893
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_577 : BitVec 32 := 1#32
  let v895 : BitVec 32 := Scalar.andi v891 c1_i32_577
  let v896 : BitVec 32 := Scalar.xori v58 v895
  let v897 : BitVec 32 := Scalar.addi v894 v896
  v897.toNat
def k0_off30 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c128_i32_244 : BitVec 32 := 128#32
  let v384 : BitVec 32 := Scalar.muli v58 c128_i32_244
  let v385 : BitVec 32 := Scalar.addi v227 v384
  let c0_i32_590 : BitVec 32 := 0#32
  ![v385.toNat, 0]
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_586 : BitVec 32 := 8#32
  let v909 : BitVec 32 := Scalar.muli v19 c8_i32_586
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_587 : BitVec 32 := 2#32
  let v910 : BitVec 32 := Scalar.muli v46 c2_i32_587
  let v911 : BitVec 32 := Scalar.addi v909 v910
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_585 : BitVec 32 := 1#32
  let v908 : BitVec 32 := Scalar.xori v58 c1_i32_585
  let c1_i32_588 : BitVec 32 := 1#32
  let v912 : BitVec 32 := Scalar.andi v46 c1_i32_588
  let v913 : BitVec 32 := Scalar.xori v908 v912
  let v914 : BitVec 32 := Scalar.addi v911 v913
  v914.toNat
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_597 : BitVec 32 := 8#32
  let v926 : BitVec 32 := Scalar.muli v19 c8_i32_597
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_596 : BitVec 32 := 1#32
  let v925 : BitVec 32 := Scalar.xori v46 c1_i32_596
  let c2_i32_598 : BitVec 32 := 2#32
  let v927 : BitVec 32 := Scalar.muli v925 c2_i32_598
  let v928 : BitVec 32 := Scalar.addi v926 v927
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_599 : BitVec 32 := 1#32
  let v929 : BitVec 32 := Scalar.andi v925 c1_i32_599
  let v930 : BitVec 32 := Scalar.xori v58 v929
  let v931 : BitVec 32 := Scalar.addi v928 v930
  v931.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_608 : BitVec 32 := 8#32
  let v943 : BitVec 32 := Scalar.muli v19 c8_i32_608
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_609 : BitVec 32 := 2#32
  let v944 : BitVec 32 := Scalar.muli v46 c2_i32_609
  let v945 : BitVec 32 := Scalar.addi v943 v944
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_607 : BitVec 32 := 1#32
  let v942 : BitVec 32 := Scalar.xori v58 c1_i32_607
  let c1_i32_610 : BitVec 32 := 1#32
  let v946 : BitVec 32 := Scalar.andi v46 c1_i32_610
  let v947 : BitVec 32 := Scalar.xori v942 v946
  let v948 : BitVec 32 := Scalar.addi v945 v947
  v948.toNat
def k0_off31 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let v959 : Index := Scalar.indexCast v186
  let c0_618 : Index := 0#32
  ![v959.toNat, 0]
def k0_off32 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let c0_i32_625 : BitVec 32 := 0#32
  ![v186.toNat, 0]
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_621 : BitVec 32 := 8#32
  let v965 : BitVec 32 := Scalar.muli v19 c8_i32_621
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_622 : BitVec 32 := 2#32
  let v966 : BitVec 32 := Scalar.muli v46 c2_i32_622
  let v967 : BitVec 32 := Scalar.addi v965 v966
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_620 : BitVec 32 := 1#32
  let v964 : BitVec 32 := Scalar.xori v58 c1_i32_620
  let c1_i32_623 : BitVec 32 := 1#32
  let v968 : BitVec 32 := Scalar.andi v46 c1_i32_623
  let v969 : BitVec 32 := Scalar.xori v964 v968
  let v970 : BitVec 32 := Scalar.addi v967 v969
  v970.toNat
def k0_off33 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let v981 : Index := Scalar.indexCast v227
  let c0_631 : Index := 0#32
  ![v981.toNat, 0]
def k0_off34 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let c0_i32_638 : BitVec 32 := 0#32
  ![v227.toNat, 0]
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_633 : BitVec 32 := 1#32
  let v986 : BitVec 32 := Scalar.xori v19 c1_i32_633
  let c8_i32_634 : BitVec 32 := 8#32
  let v987 : BitVec 32 := Scalar.muli v986 c8_i32_634
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_635 : BitVec 32 := 2#32
  let v988 : BitVec 32 := Scalar.muli v46 c2_i32_635
  let v989 : BitVec 32 := Scalar.addi v987 v988
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_636 : BitVec 32 := 1#32
  let v990 : BitVec 32 := Scalar.andi v46 c1_i32_636
  let v991 : BitVec 32 := Scalar.xori v58 v990
  let v992 : BitVec 32 := Scalar.addi v989 v991
  v992.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_647 : BitVec 32 := 8#32
  let v1009 : BitVec 32 := Scalar.muli v19 c8_i32_647
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_648 : BitVec 32 := 2#32
  let v1010 : BitVec 32 := Scalar.muli v46 c2_i32_648
  let v1011 : BitVec 32 := Scalar.addi v1009 v1010
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_646 : BitVec 32 := 1#32
  let v1008 : BitVec 32 := Scalar.xori v58 c1_i32_646
  let c1_i32_649 : BitVec 32 := 1#32
  let v1012 : BitVec 32 := Scalar.andi v46 c1_i32_649
  let v1013 : BitVec 32 := Scalar.xori v1008 v1012
  let v1014 : BitVec 32 := Scalar.addi v1011 v1013
  v1014.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_659 : BitVec 32 := 1#32
  let v1030 : BitVec 32 := Scalar.xori v19 c1_i32_659
  let c8_i32_660 : BitVec 32 := 8#32
  let v1031 : BitVec 32 := Scalar.muli v1030 c8_i32_660
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_661 : BitVec 32 := 2#32
  let v1032 : BitVec 32 := Scalar.muli v46 c2_i32_661
  let v1033 : BitVec 32 := Scalar.addi v1031 v1032
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_23 : BitVec 32 := 1#32
  let v57 : BitVec 32 := Scalar.andi v46 c1_i32_23
  let v58 : BitVec 32 := Scalar.xori v56 v57
  let c1_i32_662 : BitVec 32 := 1#32
  let v1034 : BitVec 32 := Scalar.andi v46 c1_i32_662
  let v1035 : BitVec 32 := Scalar.xori v58 v1034
  let v1036 : BitVec 32 := Scalar.addi v1033 v1035
  v1036.toNat
def k0_off35 (d0 : Dev nD) : Fin 2 → Nat :=
  let c256_i32_670 : BitVec 32 := 256#32
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let v1047 : BitVec 32 := Scalar.subi c256_i32_670 v186
  let v1048 : Index := Scalar.indexCast v1047
  let c0_671 : Index := 0#32
  ![v1048.toNat, 0]
def k0_off36 (d0 : Dev nD) : Fin 2 → Nat :=
  let c256_i32_670 : BitVec 32 := 256#32
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_110 : BitVec 32 := 256#32
  let v185 : BitVec 32 := Scalar.muli v58 c256_i32_110
  let v186 : BitVec 32 := Scalar.addi c0_i32_111 v185
  let v1047 : BitVec 32 := Scalar.subi c256_i32_670 v186
  let v1051 : Index := Scalar.indexCast v1047
  let c0_672 : Index := 0#32
  ![v1051.toNat, 0]
def k0_off37 (d0 : Dev nD) : Fin 2 → Nat :=
  let c256_i32_677 : BitVec 32 := 256#32
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let v1057 : BitVec 32 := Scalar.subi c256_i32_677 v227
  let v1058 : Index := Scalar.indexCast v1057
  let c0_678 : Index := 0#32
  ![v1058.toNat, 0]
def k0_off38 (d0 : Dev nD) : Fin 2 → Nat :=
  let c256_i32_677 : BitVec 32 := 256#32
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_137 : BitVec 32 := 1#32
  let v225 : BitVec 32 := Scalar.andi v19 c1_i32_137
  let c256_i32_138 : BitVec 32 := 256#32
  let v226 : BitVec 32 := Scalar.muli v225 c256_i32_138
  let v227 : BitVec 32 := Scalar.addi c0_i32_139 v226
  let v1057 : BitVec 32 := Scalar.subi c256_i32_677 v227
  let v1061 : Index := Scalar.indexCast v1057
  let c128_679 : Index := 128#32
  ![v1061.toNat, 128]
def k0_off39 (d0 : Dev nD) : Fin 2 → Nat :=
  let c256_i32_684 : BitVec 32 := 256#32
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_23 : BitVec 32 := 1#32
  let v57 : BitVec 32 := Scalar.andi v46 c1_i32_23
  let v58 : BitVec 32 := Scalar.xori v56 v57
  let c256_i32_164 : BitVec 32 := 256#32
  let v265 : BitVec 32 := Scalar.muli v58 c256_i32_164
  let v266 : BitVec 32 := Scalar.addi c0_i32_165 v265
  let v1067 : BitVec 32 := Scalar.subi c256_i32_684 v266
  let v1071 : Index := Scalar.indexCast v1067
  let c256_686 : Index := 256#32
  ![v1071.toNat, 256]
def k0_off40 (d0 : Dev nD) : Fin 2 → Nat :=
  let c256_i32_691 : BitVec 32 := 256#32
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_191 : BitVec 32 := 1#32
  let v305 : BitVec 32 := Scalar.andi v19 c1_i32_191
  let c256_i32_192 : BitVec 32 := 256#32
  let v306 : BitVec 32 := Scalar.muli v305 c256_i32_192
  let v307 : BitVec 32 := Scalar.addi c0_i32_193 v306
  let v1077 : BitVec 32 := Scalar.subi c256_i32_691 v307
  let v1081 : Index := Scalar.indexCast v1077
  let c384_693 : Index := 384#32
  ![v1081.toNat, 384]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S32x512x512 : Shape := ⟨3, ![32, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S32x512x512, .bf16⟩
  | .hbm, ⟨2, _⟩ => ⟨S32x512x512, .f32⟩
  | .hbm, ⟨3, _⟩ => ⟨S_, .f32⟩
  | .hbm, ⟨4, _⟩ => ⟨S512x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tables.lean ====
/- The kernel's body as a sequence of named steps, one definition per kind of step and one per round, the four
   column chains being the four values of one parameter. `body_eq` says that the printed body is that sequence. -/
module

public import proofs.«01_k».proof.Proof.Gen.KernelIdeal.Frame
public import proofs.«01_k».proof.Proof.Gen.KernelIdeal.Skeleton

@[expose] public section

set_option maxRecDepth 16384

noncomputable section

namespace Cert.KernelIdeal.AR

open Idealize.ShloMosaic Idealize.ShloMosaic.TcCoe
open Idealize.SL Idealize.SL.Sem
open Cert.KernelIdeal Cert.KernelIdeal.Gen

variable {F : FTy → Type} [FloatOps F]

/-! ## Buffers, semaphores and shapes -/

/-- The staged argument block, the staged result, and the accumulator. -/
abbrev xM : Memref sig .tc .vmem S512x512 .bf16 := Memref.whole cc0_stg0_0
abbrev oM : Memref sig .tc .vmem S512x512 .f32 := Memref.whole cc0_stg1_0
abbrev aM : Memref sig .tc .vmem S512x512 .f32 := Memref.whole cc0_scratch0

/-- Chain `j`'s buffer of outgoing pieces. -/
def stM (j : Fin 4) : Memref sig .tc .vmem S576x128 .bf16 :=
  match j with
  | 0 => Memref.whole cc0_scratch1 | 1 => Memref.whole cc0_scratch4 | 2 => Memref.whole cc0_scratch7 | 3 => Memref.whole cc0_scratch10
/-- Chain `j`'s buffer of incoming pieces. -/
def rcM (j : Fin 4) : Memref sig .tc .vmem S576x128 .bf16 :=
  match j with
  | 0 => Memref.whole cc0_scratch2 | 1 => Memref.whole cc0_scratch5 | 2 => Memref.whole cc0_scratch8 | 3 => Memref.whole cc0_scratch11
/-- Chain `j`'s buffer of gathered result rows. -/
def gM (j : Fin 4) : Memref sig .tc .vmem S512x128 .bf16 :=
  match j with
  | 0 => Memref.whole cc0_scratch3 | 1 => Memref.whole cc0_scratch6 | 2 => Memref.whole cc0_scratch9 | 3 => Memref.whole cc0_scratch12

theorem stM_whole (j : Fin 4) : (stM j).IsWhole := by
  match j with
  | 0 => exact Memref.isWhole_whole _ | 1 => exact Memref.isWhole_whole _ | 2 => exact Memref.isWhole_whole _ | 3 => exact Memref.isWhole_whole _
theorem rcM_whole (j : Fin 4) : (rcM j).IsWhole := by
  match j with
  | 0 => exact Memref.isWhole_whole _ | 1 => exact Memref.isWhole_whole _ | 2 => exact Memref.isWhole_whole _ | 3 => exact Memref.isWhole_whole _
theorem gM_whole (j : Fin 4) : (gM j).IsWhole := by
  match j with
  | 0 => exact Memref.isWhole_whole _ | 1 => exact Memref.isWhole_whole _ | 2 => exact Memref.isWhole_whole _ | 3 => exact Memref.isWhole_whole _

/-- The completion semaphores of chain `j`'s copy of round `r`: the sender's and the receiver's. -/
def sS (j : Fin 4) (r : Fin 8) : DmaSem sig := ⟨2 + (8 * j.val + r.val), by have := j.2; have := r.2; show _ < 66; omega⟩
def rS (j : Fin 4) (r : Fin 8) : DmaSem sig := ⟨34 + (8 * j.val + r.val), by have := j.2; have := r.2; show _ < 66; omega⟩

/-- A piece of `w` rows of one chain's 128 columns. -/
abbrev Sq (w : ℕ) : Shape := ⟨2, ![w, 128]⟩

/-- How many rows the copy of round `r` moves. -/
def wd (r : Fin 8) : ℕ :=
  match r with
  | 0 => 256 | 1 => 128 | 2 => 64 | 3 => 64 | 4 => 64 | 5 => 64 | 6 => 128 | 7 => 256

/-- `w` rows from row `z` of a piece buffer. -/
abbrev zR (w z : ℕ) (hz : ∀ a, (![z, 0] : Fin 2 → ℕ) a + (Sq w).size a ≤ S576x128.size a) : Rect S576x128 :=
  Rect.unit (s := S576x128) ![z, 0] (Sq w).size hz

/-! ## Offsets and partners, by chain -/

/-- Where chain `j` reads what it sends in round 0, what it keeps there, and so on down the halvings. -/
def oS0 (j : Fin 4) : Dev nD → Fin 2 → ℕ := match j with | 0 => k0_off1 | 1 => k0_off2 | 2 => k0_off3 | 3 => k0_off4
def oK0 (j : Fin 4) : Dev nD → Fin 2 → ℕ := match j with | 0 => k0_off5 | 1 => k0_off7 | 2 => k0_off9 | 3 => k0_off11
def oS1 (j : Fin 4) : Dev nD → Fin 2 → ℕ := match j with | 0 => k0_off6 | 1 => k0_off8 | 2 => k0_off10 | 3 => k0_off12
def oK1 (j : Fin 4) : Dev nD → Fin 2 → ℕ := match j with | 0 => k0_off13 | 1 => k0_off15 | 2 => k0_off17 | 3 => k0_off19
def oS2 (j : Fin 4) : Dev nD → Fin 2 → ℕ := match j with | 0 => k0_off14 | 1 => k0_off16 | 2 => k0_off18 | 3 => k0_off20
def oH (j : Fin 4) : Dev nD → Fin 2 → ℕ := match j with | 0 => k0_off21 | 1 => k0_off22 | 2 => k0_off23 | 3 => k0_off24
def oL (j : Fin 4) : Dev nD → Fin 2 → ℕ := match j with | 0 => k0_off36 | 1 => k0_off38 | 2 => k0_off39 | 3 => k0_off40
/-- The same in the gathered rows' buffer: the 64 rows a device ends up summing (stored, then sent), the 128 and
    the 256 around them, and the other 256. -/
def gS3 (j : Fin 4) : Dev nD → Fin 2 → ℕ := match j with | 0 => k0_off25 | 1 => k0_off27 | 2 => k0_off25 | 3 => k0_off27
def gH3 (j : Fin 4) : Dev nD → Fin 2 → ℕ := match j with | 0 => k0_off26 | 1 => k0_off28 | 2 => k0_off26 | 3 => k0_off28
def gH2 (j : Fin 4) : Dev nD → Fin 2 → ℕ := match j with | 0 => k0_off29 | 1 => k0_off30 | 2 => k0_off29 | 3 => k0_off30
def gH1 (j : Fin 4) : Dev nD → Fin 2 → ℕ := match j with | 0 => k0_off32 | 1 => k0_off34 | 2 => k0_off32 | 3 => k0_off34
def gL1 (j : Fin 4) : Dev nD → Fin 2 → ℕ := match j with | 0 => k0_off31 | 1 => k0_off33 | 2 => k0_off31 | 3 => k0_off33
def gL0 (j : Fin 4) : Dev nD → Fin 2 → ℕ := match j with | 0 => k0_off35 | 1 => k0_off37 | 2 => k0_off35 | 3 => k0_off37

/-- The device chain `j` sends to in round `r`, as the kernel computes it. -/
def dvN (j : Fin 4) (r : Fin 8) : Dev nD → ℕ :=
  match r, j with
  | 0, 0 => k0_dev6 | 0, 1 => k0_dev7 | 0, 2 => k0_dev8 | 0, 3 => k0_dev9
  | 1, 0 => k0_dev10 | 1, 1 => k0_dev11 | 1, 2 => k0_dev12 | 1, 3 => k0_dev13
  | 2, 0 => k0_dev14 | 2, 1 => k0_dev15 | 2, 2 => k0_dev16 | 2, 3 => k0_dev17
  | 3, 0 => k0_dev18 | 3, 1 => k0_dev19 | 3, 2 => k0_dev20 | 3, 3 => k0_dev21
  | 4, 0 => k0_dev22 | 4, 1 => k0_dev23 | 4, 2 => k0_dev24 | 4, 3 => k0_dev25
  | 5, 0 => k0_dev26 | 5, 1 => k0_dev27 | 5, 2 => k0_dev28 | 5, 3 => k0_dev29
  | 6, 0 => k0_dev30 | 6, 1 => k0_dev31 | 6, 2 => k0_dev32 | 6, 3 => k0_dev33
  | 7, 0 => k0_dev34 | 7, 1 => k0_dev35 | 7, 2 => k0_dev36 | 7, 3 => k0_dev37

/-- Row `i`'s bit of device `c` that round `r`'s exchange flips, by chain parity: which half of the rows the
    device keeps. -/
def bitA (c : Dev nD) : Fin 3 → ℕ | 0 => (c.val % 2 + c.val / 2) % 2 | 1 => c.val / 2 % 2 | 2 => c.val / 8 % 2
def bitB (c : Dev nD) : Fin 3 → ℕ | 0 => c.val / 8 % 2 | 1 => (c.val % 2 + c.val / 2) % 2 | 2 => c.val / 2 % 2
def bit (j : Fin 4) (c : Dev nD) (k : Fin 3) : ℕ := if j.val % 2 = 0 then bitA c k else bitB c k

/-- The first row a device holds after one, two and three halvings. -/
def row1 (j : Fin 4) (c : Dev nD) : ℕ := 256 * bit j c 0
def row2 (j : Fin 4) (c : Dev nD) : ℕ := row1 j c + 128 * bit j c 1
def row3 (j : Fin 4) (c : Dev nD) : ℕ := row2 j c + 64 * bit j c 2

theorem bit_le (j : Fin 4) (c : Dev nD) (k : Fin 3) : bit j c k ≤ 1 := by
  unfold bit; split <;> (match k with | 0 => (first | unfold bitA | unfold bitB); dsimp only; omega | 1 => (first | unfold bitA | unfold bitB); dsimp only; omega | 2 => (first | unfold bitA | unfold bitB); dsimp only; omega)

theorem oS0_eq : ∀ (j : Fin 4) (c : Dev nD), oS0 j c = ![256 - row1 j c, 128 * j.val] := by decide +kernel
theorem oK0_eq : ∀ (j : Fin 4) (c : Dev nD), oK0 j c = ![row1 j c, 128 * j.val] := by decide +kernel
theorem oS1_eq : ∀ (j : Fin 4) (c : Dev nD), oS1 j c = ![row1 j c + 128 * (1 - bit j c 1), 128 * j.val] := by decide +kernel
theorem oK1_eq : ∀ (j : Fin 4) (c : Dev nD), oK1 j c = ![row2 j c, 128 * j.val] := by decide +kernel
theorem oS2_eq : ∀ (j : Fin 4) (c : Dev nD), oS2 j c = ![row2 j c + 64 * (1 - bit j c 2), 128 * j.val] := by decide +kernel
theorem oH_eq : ∀ (j : Fin 4) (c : Dev nD), oH j c = ![row3 j c, 128 * j.val] := by decide +kernel
theorem oL_eq : ∀ (j : Fin 4) (c : Dev nD), oL j c = ![256 - row1 j c, 128 * j.val] := by decide +kernel
theorem gS3_eq : ∀ (j : Fin 4) (c : Dev nD), gS3 j c = ![row3 j c, 0] := by decide +kernel
theorem gH3_eq : ∀ (j : Fin 4) (c : Dev nD), gH3 j c = ![row3 j c, 0] := by decide +kernel
theorem gH2_eq : ∀ (j : Fin 4) (c : Dev nD), gH2 j c = ![row2 j c, 0] := by decide +kernel
theorem gH1_eq : ∀ (j : Fin 4) (c : Dev nD), gH1 j c = ![row1 j c, 0] := by decide +kernel
theorem gL1_eq : ∀ (j : Fin 4) (c : Dev nD), gL1 j c = ![row1 j c, 0] := by decide +kernel
theorem gL0_eq : ∀ (j : Fin 4) (c : Dev nD), gL0 j c = ![256 - row1 j c, 0] := by decide +kernel

/-- A piece at row `a` of chain `j`'s columns lies in a 512 by 512 array when its rows do. -/
theorem inb_acc {o : Fin 2 → ℕ} {a w : ℕ} {j : Fin 4} (h : o = ![a, 128 * j.val]) (ha : a + w ≤ 512) :
    ∀ b, o b + (Sq w).size b ≤ S512x512.size b := by
  subst h; intro b; have := j.2
  match b with
  | 0 => exact ha
  | 1 => show 128 * j.val + 128 ≤ 512; omega
/-- And in a 512 by 128 one. -/
theorem inb_g {o : Fin 2 → ℕ} {a w : ℕ} (h : o = ![a, 0]) (ha : a + w ≤ 512) :
    ∀ b, o b + (Sq w).size b ≤ S512x128.size b := by
  subst h; intro b
  match b with
  | 0 => exact ha
  | 1 => show 0 + 128 ≤ 128; omega

section Inb
variable (j : Fin 4) (c : Dev nD)
theorem row1_le : row1 j c ≤ 256 := by have := bit_le j c 0; unfold row1; omega
theorem row2_le : row2 j c + 128 ≤ row1 j c + 256 := by have := bit_le j c 1; unfold row2; omega
theorem row3_le : row3 j c + 64 ≤ row2 j c + 128 := by have := bit_le j c 2; unfold row3; omega
theorem oS0_inb : ∀ b, oS0 j c b + (Sq 256).size b ≤ S512x512.size b := inb_acc (oS0_eq j c) (by have := row1_le j c; omega)
theorem oK0_inb : ∀ b, oK0 j c b + (Sq 256).size b ≤ S512x512.size b := inb_acc (oK0_eq j c) (by have := row1_le j c; omega)
theorem oS1_inb : ∀ b, oS1 j c b + (Sq 128).size b ≤ S512x512.size b := inb_acc (oS1_eq j c) (by have := row1_le j c; omega)
theorem oK1_inb : ∀ b, oK1 j c b + (Sq 128).size b ≤ S512x512.size b := inb_acc (oK1_eq j c) (by have := row1_le j c; have := row2_le j c; omega)
theorem oS2_inb : ∀ b, oS2 j c b + (Sq 64).size b ≤ S512x512.size b := inb_acc (oS2_eq j c) (by have := row1_le j c; have := row2_le j c; omega)
theorem oH_inb : ∀ b, oH j c b + (Sq 64).size b ≤ S512x512.size b := inb_acc (oH_eq j c) (by have := row1_le j c; have := row2_le j c; have := row3_le j c; omega)
theorem oL_inb : ∀ b, oL j c b + (Sq 256).size b ≤ S512x512.size b := inb_acc (oL_eq j c) (by have := row1_le j c; omega)
theorem gS3_inb : ∀ b, gS3 j c b + (Sq 64).size b ≤ S512x128.size b := inb_g (gS3_eq j c) (by have := row1_le j c; have := row2_le j c; have := row3_le j c; omega)
theorem gH3_inb : ∀ b, gH3 j c b + (Sq 64).size b ≤ S512x128.size b := inb_g (gH3_eq j c) (by have := row1_le j c; have := row2_le j c; have := row3_le j c; omega)
theorem gH2_inb : ∀ b, gH2 j c b + (Sq 128).size b ≤ S512x128.size b := inb_g (gH2_eq j c) (by have := row1_le j c; have := row2_le j c; omega)
theorem gH1_inb : ∀ b, gH1 j c b + (Sq 256).size b ≤ S512x128.size b := inb_g (gH1_eq j c) (by have := row1_le j c; omega)
theorem gL1_inb : ∀ b, gL1 j c b + (Sq 256).size b ≤ S512x128.size b := inb_g (gL1_eq j c) (by have := row1_le j c; omega)
theorem gL0_inb : ∀ b, gL0 j c b + (Sq 256).size b ≤ S512x128.size b := inb_g (gL0_eq j c) (by have := row1_le j c; omega)
end Inb

theorem dvN_lt : ∀ (j : Fin 4) (r : Fin 8) (c : Dev nD), dvN j r c < nD := by decide +kernel

end Cert.KernelIdeal.AR

end
-- ==== Proof.Program.lean ====
/- The kernel's body as a sequence of named steps, one definition per kind of step and one per round, the four
   column chains being the four values of one parameter. `body_eq` says that the printed body is that sequence. -/
module

public import proofs.«01_k».proof.Proof.Tables

@[expose] public section

set_option maxRecDepth 16384

noncomputable section

namespace Cert.KernelIdeal.AR

open Idealize.ShloMosaic Idealize.ShloMosaic.TcCoe
open Idealize.SL Idealize.SL.Sem
open Cert.KernelIdeal Cert.KernelIdeal.Gen

variable {F : FTy → Type} [FloatOps F]

/-! ## What the copies read and write -/

/-- A piece lies within its buffer. -/
theorem z0 : ∀ a, (![0, 0] : Fin 2 → ℕ) a + (Sq 256).size a ≤ S576x128.size a := by decide
theorem z1 : ∀ a, (![256, 0] : Fin 2 → ℕ) a + (Sq 128).size a ≤ S576x128.size a := by decide
theorem z2 : ∀ a, (![384, 0] : Fin 2 → ℕ) a + (Sq 64).size a ≤ S576x128.size a := by decide
theorem z3 : ∀ a, (![448, 0] : Fin 2 → ℕ) a + (Sq 64).size a ≤ S576x128.size a := by decide
theorem z4 : ∀ a, (![512, 0] : Fin 2 → ℕ) a + (Sq 64).size a ≤ S576x128.size a := by decide

/-- `w` rows of chain `j`'s gathered rows, from the offset given. -/
abbrev gR (w : ℕ) (o : Fin 2 → ℕ) (ho : ∀ b, o b + (Sq w).size b ≤ S512x128.size b) : Rect S512x128 :=
  Rect.unit (s := S512x128) o (Sq w).size ho

/-- The rows the copy of round `r` of chain `j` reads on the device that issues it. -/
def srcV (d : Dev nD) (j : Fin 4) (r : Fin 8) : Memref sig .tc .vmem (Sq (wd r)) .bf16 :=
  match r with
  | 0 => (stM j).slice (zR 256 0 z0) (fun _ => rfl)
  | 1 => (stM j).slice (zR 128 256 z1) (fun _ => rfl)
  | 2 => (stM j).slice (zR 64 384 z2) (fun _ => rfl)
  | 3 => (stM j).slice (zR 64 448 z3) (fun _ => rfl)
  | 4 => (stM j).slice (zR 64 512 z4) (fun _ => rfl)
  | 5 => (gM j).slice (gR 64 (gH3 j d) (gH3_inb j d)) (fun _ => rfl)
  | 6 => (gM j).slice (gR 128 (gH2 j d) (gH2_inb j d)) (fun _ => rfl)
  | 7 => (gM j).slice (gR 256 (gH1 j d) (gH1_inb j d)) (fun _ => rfl)

/-- The rows it writes on the device it sends to. -/
def dstV (d : Dev nD) (j : Fin 4) (r : Fin 8) : Memref sig .tc .vmem (Sq (wd r)) .bf16 :=
  match r with
  | 0 => (rcM j).slice (zR 256 0 z0) (fun _ => rfl)
  | 1 => (rcM j).slice (zR 128 256 z1) (fun _ => rfl)
  | 2 => (rcM j).slice (zR 64 384 z2) (fun _ => rfl)
  | 3 => (rcM j).slice (zR 64 448 z3) (fun _ => rfl)
  | 4 => (rcM j).slice (zR 64 512 z4) (fun _ => rfl)
  | 5 => (gM j).slice (gR 64 (gH3 j d) (gH3_inb j d)) (fun _ => rfl)
  | 6 => (gM j).slice (gR 128 (gH2 j d) (gH2_inb j d)) (fun _ => rfl)
  | 7 => (gM j).slice (gR 256 (gH1 j d) (gH1_inb j d)) (fun _ => rfl)

theorem w5 : ∀ (j : Fin 4) (d : Dev nD), (gR 64 (gH3 j d) (gH3_inb j d)).WholeWords (EltTy.packing .bf16) := by decide +kernel
theorem w6 : ∀ (j : Fin 4) (d : Dev nD), (gR 128 (gH2 j d) (gH2_inb j d)).WholeWords (EltTy.packing .bf16) := by decide +kernel
theorem w7 : ∀ (j : Fin 4) (d : Dev nD), (gR 256 (gH1 j d) (gH1_inb j d)).WholeWords (EltTy.packing .bf16) := by decide +kernel
theorem p3 : ∀ (j : Fin 4) (d : Dev nD), (gR 64 (gS3 j d) (gS3_inb j d)).PackedRows (EltTy.packing .bf16) := by decide +kernel

theorem srcV_exact (d : Dev nD) (j : Fin 4) (r : Fin 8) : (srcV d j r).view.WordExact := by
  match r with
  | 0 => exact (stM_whole j).wordExact_slice rfl _ wordsbf16_S576x128_S256x128_0_0
  | 1 => exact (stM_whole j).wordExact_slice rfl _ wordsbf16_S576x128_S128x128_256_0
  | 2 => exact (stM_whole j).wordExact_slice rfl _ wordsbf16_S576x128_S64x128_384_0
  | 3 => exact (stM_whole j).wordExact_slice rfl _ wordsbf16_S576x128_S64x128_448_0
  | 4 => exact (stM_whole j).wordExact_slice rfl _ wordsbf16_S576x128_S64x128_512_0
  | 5 => exact (gM_whole j).wordExact_slice rfl _ (w5 j d)
  | 6 => exact (gM_whole j).wordExact_slice rfl _ (w6 j d)
  | 7 => exact (gM_whole j).wordExact_slice rfl _ (w7 j d)

theorem dstV_exact (d : Dev nD) (j : Fin 4) (r : Fin 8) : (dstV d j r).view.WordExact := by
  match r with
  | 0 => exact (rcM_whole j).wordExact_slice rfl _ wordsbf16_S576x128_S256x128_0_0
  | 1 => exact (rcM_whole j).wordExact_slice rfl _ wordsbf16_S576x128_S128x128_256_0
  | 2 => exact (rcM_whole j).wordExact_slice rfl _ wordsbf16_S576x128_S64x128_384_0
  | 3 => exact (rcM_whole j).wordExact_slice rfl _ wordsbf16_S576x128_S64x128_448_0
  | 4 => exact (rcM_whole j).wordExact_slice rfl _ wordsbf16_S576x128_S64x128_512_0
  | 5 => exact (gM_whole j).wordExact_slice rfl _ (w5 j d)
  | 6 => exact (gM_whole j).wordExact_slice rfl _ (w6 j d)
  | 7 => exact (gM_whole j).wordExact_slice rfl _ (w7 j d)

/-- A piece has elements. -/
theorem sq_pos {w : ℕ} (h : 0 < w) : 0 < (Sq w).numel := by
  refine Shape.numel_pos fun a => ?_
  match a with
  | 0 => exact h
  | 1 => exact (by decide : 0 < 128)

theorem casts_self (s : Shape) : Shape.ShapeCasts s s := rfl

/-! ## What is stored -/

/-- A piece of the argument, as it is put in the outgoing buffer. -/
abbrev payX {w : ℕ} (x : Vec F (Sq w) .bf16) : Vec F (Sq w) .bf16 :=
  shapeCast (Sq w) (shapeCast (Sq w) x (casts_self _)) (casts_self _)
/-- The first sum: the device's own piece and its partner's. -/
abbrev payA0 {w : ℕ} (x b : Vec F (Sq w) .bf16) : FVec F (Sq w) .f32 :=
  shapeCast (Sq w) (addf (extf .f32 (shapeCast (Sq w) x (casts_self _)) bitsLt_bf16_f32) (extf .f32 b bitsLt_bf16_f32)) (casts_self _)
/-- The later sums: the partial sum and the partner's. -/
abbrev payA {w : ℕ} (a : FVec F (Sq w) .f32) (b : Vec F (Sq w) .bf16) : FVec F (Sq w) .f32 :=
  shapeCast (Sq w) (addf a (extf .f32 b bitsLt_bf16_f32)) (casts_self _)
/-- A partial sum, as it is put in the outgoing buffer. -/
abbrev payT {w : ℕ} (a : FVec F (Sq w) .f32) : FVec F (Sq w) .bf16 :=
  shapeCast (Sq w) (truncf .bf16 a bitsLt_bf16_f32) (casts_self _)
/-- The whole sum, as it is put among the gathered rows. -/
abbrev payG {w : ℕ} (a : FVec F (Sq w) .f32) (b : Vec F (Sq w) .bf16) : FVec F (Sq w) .bf16 :=
  shapeCast (Sq w) (truncf .bf16 (addf a (extf .f32 b bitsLt_bf16_f32)) bitsLt_bf16_f32) (casts_self _)
/-- Gathered rows, as they are put in the result. -/
abbrev payO {w : ℕ} (g : Vec F (Sq w) .bf16) : FVec F (Sq w) .f32 := extf .f32 g bitsLt_bf16_f32

/-! ## The steps, each followed by the rest of the program -/

variable (F) in
/-- A program of one core of the kernel. -/
abbrev TProg : Type 1 := Prog (TpuEff nD τ sig (Elt F) Λ₀ .tc) PUnit

/-- `w` rows of the 512 by 512 arrays, from the offset given. -/
abbrev aR (w : ℕ) (o : Fin 2 → ℕ) (ho : ∀ b, o b + (Sq w).size b ≤ S512x512.size b) : Rect S512x512 :=
  Rect.unit (s := S512x512) o (Sq w).size ho

section Steps
variable (j : Fin 4) {w : ℕ} (hw : 0 < (Sq w).numel)

/-- Argument rows into the outgoing buffer. -/
def stageX {o : Fin 2 → ℕ} (ho : ∀ b, o b + (Sq w).size b ≤ S512x512.size b) {z : ℕ} (hz : ∀ a, (![z, 0] : Fin 2 → ℕ) a + (Sq w).size a ≤ S576x128.size a)
    (hE : ((stM j).access (zR w z hz)).StoreExact Finset.univ) (k : TProg F) : TProg F :=
  .op (.load xM (aR w o ho).toLoadRect (View.loadsAt_vmem hw)) fun x =>
  .op (.load (stM j) (zR w z hz).toLoadRect (View.loadsAt_vmem hw)) fun _ =>
  .op (.store (stM j) (zR w z hz) (payX x) Finset.univ (View.stores_vmem hw hE (fun _ => rfl)) (.inl rfl)) fun _ => k

/-- Accumulator rows into the outgoing buffer. -/
def stageA {o : Fin 2 → ℕ} (ho : ∀ b, o b + (Sq w).size b ≤ S512x512.size b) {z : ℕ} (hz : ∀ a, (![z, 0] : Fin 2 → ℕ) a + (Sq w).size a ≤ S576x128.size a)
    (hE : ((stM j).access (zR w z hz)).StoreExact Finset.univ) (k : TProg F) : TProg F :=
  .op (.load aM (aR w o ho).toLoadRect (View.loadsAt_vmem hw)) fun (x : Vec F (Sq w) .f32) =>
  .op (.load (stM j) (zR w z hz).toLoadRect (View.loadsAt_vmem hw)) fun _ =>
  .op (.store (stM j) (zR w z hz) (payT x) Finset.univ (View.stores_vmem hw hE (fun _ => rfl)) (.inl rfl)) fun _ => k

/-- Argument rows and received rows summed into the accumulator. -/
def sumX {o : Fin 2 → ℕ} (ho : ∀ b, o b + (Sq w).size b ≤ S512x512.size b) {z : ℕ} (hz : ∀ a, (![z, 0] : Fin 2 → ℕ) a + (Sq w).size a ≤ S576x128.size a)
    (k : TProg F) : TProg F :=
  .op (.load xM (aR w o ho).toLoadRect (View.loadsAt_vmem hw)) fun x =>
  .op (.load (rcM j) (zR w z hz).toLoadRect (View.loadsAt_vmem hw)) fun b =>
  .op (.load aM (aR w o ho).toLoadRect (View.loadsAt_vmem hw)) fun _ =>
  .op (.store aM (aR w o ho) (payA0 x b) Finset.univ (View.stores_vmem_bits_univ hw rfl) (.inl rfl)) fun _ => k

/-- Received rows added to the accumulator's. -/
def sumA {o : Fin 2 → ℕ} (ho : ∀ b, o b + (Sq w).size b ≤ S512x512.size b) {z : ℕ} (hz : ∀ a, (![z, 0] : Fin 2 → ℕ) a + (Sq w).size a ≤ S576x128.size a)
    (k : TProg F) : TProg F :=
  .op (.load aM (aR w o ho).toLoadRect (View.loadsAt_vmem hw)) fun (a : Vec F (Sq w) .f32) =>
  .op (.load (rcM j) (zR w z hz).toLoadRect (View.loadsAt_vmem hw)) fun b =>
  .op (.load aM (aR w o ho).toLoadRect (View.loadsAt_vmem hw)) fun _ =>
  .op (.store aM (aR w o ho) (payA a b) Finset.univ (View.stores_vmem_bits_univ hw rfl) (.inl rfl)) fun _ => k

/-- The last sum: received rows added to the accumulator's, the sum put among the gathered rows too. -/
def sumG {o : Fin 2 → ℕ} (ho : ∀ b, o b + (Sq w).size b ≤ S512x512.size b) {z : ℕ} (hz : ∀ a, (![z, 0] : Fin 2 → ℕ) a + (Sq w).size a ≤ S576x128.size a)
    {g : Fin 2 → ℕ} (hg : ∀ b, g b + (Sq w).size b ≤ S512x128.size b) (hE : ((gM j).access (gR w g hg)).StoreExact Finset.univ)
    (k : TProg F) : TProg F :=
  .op (.load aM (aR w o ho).toLoadRect (View.loadsAt_vmem hw)) fun (a : Vec F (Sq w) .f32) =>
  .op (.load (rcM j) (zR w z hz).toLoadRect (View.loadsAt_vmem hw)) fun b =>
  .op (.load aM (aR w o ho).toLoadRect (View.loadsAt_vmem hw)) fun _ =>
  .op (.store aM (aR w o ho) (payA a b) Finset.univ (View.stores_vmem_bits_univ hw rfl) (.inl rfl)) fun _ =>
  .op (.load (gM j) (gR w g hg).toLoadRect (View.loadsAt_vmem hw)) fun _ =>
  .op (.store (gM j) (gR w g hg) (payG a b) Finset.univ (View.stores_vmem hw hE (fun _ => rfl)) (.inl rfl)) fun _ => k

/-- Gathered rows widened into the result. -/
def outG {g : Fin 2 → ℕ} (hg : ∀ b, g b + (Sq w).size b ≤ S512x128.size b) {o : Fin 2 → ℕ} (ho : ∀ b, o b + (Sq w).size b ≤ S512x512.size b)
    (k : TProg F) : TProg F :=
  .op (.load (gM j) (gR w g hg).toLoadRect (View.loadsAt_vmem hw)) fun x =>
  .op (.load oM (aR w o ho).toLoadRect (View.loadsAt_vmem hw)) fun _ =>
  .op (.store oM (aR w o ho) (payO x) Finset.univ (View.stores_vmem_bits_univ hw rfl) (.inl rfl)) fun _ => k

end Steps

/-- The partner a device's number gives, as a device. -/
abbrev dv (d : Dev nD) (j : Fin 4) (r : Fin 8) : Dev nD := ⟨dvN j r d, dvN_lt j r d⟩

/-- Issue chain `j`'s copy of round `r`. -/
def issue (d : Dev nD) (j : Fin 4) (r : Fin 8) (k : TProg F) : TProg F :=
  .op (.enqueueDma (srcV d j r) (.remote (Dev.tc (dv d j r)) (dstV d j r) (.dma (sS j r))) (.dma (rS j r))
    (srcV_exact d j r) (dstV_exact d j r) ⟨⟨rfl, Or.inl rfl⟩, trivial⟩) fun _ => k
/-- Wait for the partner's copy of that round. -/
def recv (d : Dev nD) (j : Fin 4) (r : Fin 8) (k : TProg F) : TProg F :=
  .op (.waitDma2 (rS j r) (srcV d j r) (dstV d j r) (srcV_exact d j r) (dstV_exact d j r)) fun _ => k
/-- Wait for one's own copy of that round to have left. -/
def sent (d : Dev nD) (j : Fin 4) (r : Fin 8) (k : TProg F) : TProg F :=
  .op (.waitDma2 (sS j r) (dstV d j r) (srcV d j r) (dstV_exact d j r) (srcV_exact d j r)) fun _ => k

/-- The barrier semaphore every device is released by. -/
abbrev barS : Sem sig := ((SemArray.scalar (sig.barrier 0 rfl) : Sems sig S_)).sem

/-- The device of each of the five directions, as the kernel's signals compute it. -/
def pdv (d : Dev nD) (i : Fin 5) : Dev nD :=
  match i with
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩

/-- Signal the barrier of the device in direction `i`. -/
def sig1 (d : Dev nD) (i : Fin 5) (k : TProg F) : TProg F :=
  .op (.semSignal (pdv d i, .tc) barS (BitVec.toInt 1#32)) fun _ => k
/-- Wait for all five partners' signals. -/
def bar (k : TProg F) : TProg F := .op (.semWait barS (BitVec.toInt 5#32)) fun _ => k

/-! ## The rounds -/

section Rounds
variable (d : Dev nD)

theorem eS0 (j : Fin 4) : ((stM j).access (zR 256 0 z0)).StoreExact Finset.univ := (stM_whole j).storeExact_slice rfl _ packedbf16_S576x128_S256x128_0_0
theorem eS1 (j : Fin 4) : ((stM j).access (zR 128 256 z1)).StoreExact Finset.univ := (stM_whole j).storeExact_slice rfl _ packedbf16_S576x128_S128x128_256_0
theorem eS2 (j : Fin 4) : ((stM j).access (zR 64 384 z2)).StoreExact Finset.univ := (stM_whole j).storeExact_slice rfl _ packedbf16_S576x128_S64x128_384_0
theorem eS3 (j : Fin 4) : ((stM j).access (zR 64 448 z3)).StoreExact Finset.univ := (stM_whole j).storeExact_slice rfl _ packedbf16_S576x128_S64x128_448_0
theorem eS4 (j : Fin 4) : ((stM j).access (zR 64 512 z4)).StoreExact Finset.univ := (stM_whole j).storeExact_slice rfl _ packedbf16_S576x128_S64x128_512_0
theorem eG3 (j : Fin 4) : ((gM j).access (gR 64 (gS3 j d) (gS3_inb j d))).StoreExact Finset.univ := (gM_whole j).storeExact_slice rfl _ (p3 j d)

/-- The pieces are not empty. -/
theorem n256 : 0 < (Sq 256).numel := sq_pos (by decide)
theorem n128 : 0 < (Sq 128).numel := sq_pos (by decide)
theorem n64 : 0 < (Sq 64).numel := sq_pos (by decide)

def fill (j : Fin 4) (k : TProg F) : TProg F := stageX j n256 (oS0_inb j d) z0 (eS0 j) k
def rnd0 (j : Fin 4) (k : TProg F) : TProg F :=
  recv d j 0 <| sumX j n256 (oK0_inb j d) z0 <| stageA j n128 (oS1_inb j d) z1 (eS1 j) <| issue d j 1 k
def rnd1 (j : Fin 4) (k : TProg F) : TProg F :=
  recv d j 1 <| sumA j n128 (oK1_inb j d) z1 <| stageA j n64 (oS2_inb j d) z2 (eS2 j) <| issue d j 2 k
def rnd2 (j : Fin 4) (k : TProg F) : TProg F :=
  recv d j 2 <| sumA j n64 (oH_inb j d) z2 <| stageA j n64 (oH_inb j d) z3 (eS3 j) <| issue d j 3 k
def rnd3 (j : Fin 4) (k : TProg F) : TProg F :=
  recv d j 3 <| sumA j n64 (oH_inb j d) z3 <| stageA j n64 (oH_inb j d) z4 (eS4 j) <| issue d j 4 k
def rnd4 (j : Fin 4) (k : TProg F) : TProg F :=
  recv d j 4 <| sumG j n64 (oH_inb j d) z4 (gS3_inb j d) (eG3 d j) <| issue d j 5 k
def rnd5 (j : Fin 4) (k : TProg F) : TProg F := recv d j 5 <| issue d j 6 k
def rnd6 (j : Fin 4) (k : TProg F) : TProg F :=
  recv d j 6 <| outG j n256 (gL1_inb j d) (oK0_inb j d) <| issue d j 7 k
def rnd7 (j : Fin 4) (k : TProg F) : TProg F := recv d j 7 <| outG j n256 (gL0_inb j d) (oL_inb j d) k

/-- One step for each of the four chains, in turn. -/
def all4 (f : Fin 4 → TProg F → TProg F) (k : TProg F) : TProg F := f 0 (f 1 (f 2 (f 3 k)))

/-- Everything after the device has read its number. -/
def rest : TProg F :=
  all4 (fill d) <| sig1 d 0 <| sig1 d 1 <| sig1 d 2 <| sig1 d 3 <| sig1 d 4 <| bar <|
  all4 (fun j => issue d j 0) <| all4 (rnd0 d) <| all4 (rnd1 d) <| all4 (rnd2 d) <| all4 (rnd3 d) <| all4 (rnd4 d) <|
  all4 (rnd5 d) <| all4 (rnd6 d) <| all4 (rnd7 d) <|
  all4 (fun j => sent d j 0) <| all4 (fun j => sent d j 1) <| all4 (fun j => sent d j 2) <| all4 (fun j => sent d j 3) <|
  all4 (fun j => sent d j 4) <| all4 (fun j => sent d j 5) <| all4 (fun j => sent d j 6) <| all4 (fun j => sent d j 7) <| .ret ⟨⟩

end Rounds

variable (F) in
/-- The body. -/
def body : TProg F := .op .deviceId fun d => rest d

set_option maxRecDepth 65536 in
/-- The printed body, on the buffers the kernel is launched on, is that sequence of steps. -/
theorem body_eq :
    cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      (Memref.whole cc0_scratch12) (Memref.isWhole_whole _) cc0_scratch13 cc0_scratch14 = body F := by
  chain_rfl

end Cert.KernelIdeal.AR

end
-- ==== Proof.Peers.lean ====
/- The devices' partners. In each round a device exchanges with the device whose number differs from its own in one
   direction, the two chain parities running through the five directions in different orders. The facts here relate a
   device's offsets to its partner's. -/
module

public import proofs.«01_k».proof.Proof.Program

@[expose] public section

set_option maxRecDepth 16384

noncomputable section

namespace Cert.KernelIdeal.AR

open Idealize.ShloMosaic Idealize.ShloMosaic.TcCoe
open Cert.KernelIdeal Cert.KernelIdeal.Gen

/-- The number whose bits direction `i` flips. -/
def mask (i : Fin 5) : ℕ := match i with | 0 => 1 | 1 => 3 | 2 => 8 | 3 => 4 | 4 => 16

/-- The device in direction `i` of `c`. -/
def nb (i : Fin 5) (c : Dev nD) : Dev nD := ⟨(c.val ^^^ mask i) % 32, Nat.mod_lt _ (by decide)⟩

/-- The direction of chain `j`'s exchange in round `r`. -/
def dim (j : Fin 4) (r : Fin 8) : Fin 5 :=
  if j.val % 2 = 0 then (match r with | 0 => 0 | 1 => 1 | 2 => 2 | 3 => 3 | 4 => 4 | 5 => 2 | 6 => 1 | 7 => 0)
  else (match r with | 0 => 2 | 1 => 0 | 2 => 1 | 3 => 4 | 4 => 3 | 5 => 1 | 6 => 0 | 7 => 2)

/-- Chain `j`'s partner in round `r`. -/
def pr (j : Fin 4) (r : Fin 8) (c : Dev nD) : Dev nD := nb (dim j r) c

theorem nb_nb : ∀ (i : Fin 5) (c : Dev nD), nb i (nb i c) = c := by decide +kernel
theorem nb_ne : ∀ (i : Fin 5) (c : Dev nD), nb i c ≠ c := by decide +kernel
theorem nb_inj : ∀ (i i' : Fin 5) (c : Dev nD), nb i c = nb i' c → i = i' := by decide +kernel
theorem pdv_eq : ∀ (c : Dev nD) (i : Fin 5), pdv c i = nb i c := by decide +kernel
theorem dv_eq : ∀ (c : Dev nD) (j : Fin 4) (r : Fin 8), dv c j r = pr j r c := by decide +kernel
theorem pr_pr (j : Fin 4) (r : Fin 8) (c : Dev nD) : pr j r (pr j r c) = c := nb_nb _ _

/-- The devices, re-numbered along a direction. -/
def swap (i : Fin 5) : Dev nD ≃ Dev nD := ⟨nb i, nb i, nb_nb i, nb_nb i⟩

/-! ## Rows -/

/-- The first row of what a device keeps in rounds 0 to 4, and of what it sends. -/
def keepRow (j : Fin 4) (r : Fin 8) (c : Dev nD) : ℕ := match r with | 0 => row1 j c | 1 => row2 j c | _ => row3 j c
def sendRow (j : Fin 4) (r : Fin 8) (c : Dev nD) : ℕ :=
  match r with
  | 0 => 256 - row1 j c | 1 => row1 j c + 128 * (1 - bit j c 1) | 2 => row2 j c + 64 * (1 - bit j c 2) | _ => row3 j c

/-- What a device sends is what its partner keeps. -/
theorem sendRow_pr : ∀ (j : Fin 4) (r : Fin 8) (c : Dev nD), r < 5 → sendRow j r (pr j r c) = keepRow j r c := by decide +kernel

/-- The first row of what a device has gathered, and sends, in rounds 5 to 7. -/
def gRow (j : Fin 4) (r : Fin 8) (c : Dev nD) : ℕ := match r with | 5 => row3 j c | 6 => row2 j c | _ => row1 j c

theorem row2_pr5 : ∀ (j : Fin 4) (c : Dev nD), row3 j (pr j 5 c) + row3 j c = 2 * row2 j c + 64 := by decide +kernel
theorem row1_pr6 : ∀ (j : Fin 4) (c : Dev nD), row2 j (pr j 6 c) + row2 j c = 2 * row1 j c + 128 := by decide +kernel
theorem row0_pr7 : ∀ (j : Fin 4) (c : Dev nD), row1 j (pr j 7 c) + row1 j c = 256 := by decide +kernel
theorem row3_cases : ∀ (j : Fin 4) (c : Dev nD), row3 j c = row2 j c ∨ row3 j c = row2 j c + 64 := by decide +kernel
theorem row2_cases : ∀ (j : Fin 4) (c : Dev nD), row2 j c = row1 j c ∨ row2 j c = row1 j c + 128 := by decide +kernel
theorem row1_cases : ∀ (j : Fin 4) (c : Dev nD), row1 j c = 0 ∨ row1 j c = 256 := by decide +kernel

/-- The device that sums the 64 rows of block `b` among those that differ from `c` in chain `j`'s first three
    directions only. -/
def own0 (j : Fin 4) (c : Dev nD) (b : ℕ) : Dev nD := if b / 4 = bit j c 0 then c else pr j 0 c
def own1 (j : Fin 4) (c : Dev nD) (b : ℕ) : Dev nD := if b / 2 % 2 = bit j c 1 then own0 j c b else pr j 1 (own0 j c b)
def owner (j : Fin 4) (c : Dev nD) (b : ℕ) : Dev nD := if b % 2 = bit j c 2 then own1 j c b else pr j 2 (own1 j c b)

theorem owner_pr : ∀ (j : Fin 4) (r : Fin 8) (c : Dev nD), 5 ≤ r → ∀ b : Fin 8, owner j (pr j r c) b.val = owner j c b.val := by decide +kernel
theorem owner_self : ∀ (j : Fin 4) (c : Dev nD), owner j c (row3 j c / 64) = c := by decide +kernel
theorem row3_mod : ∀ (j : Fin 4) (c : Dev nD), row3 j c % 64 = 0 := by decide +kernel

/-! ## Indices -/

/-- Element `(x, y)` of a piece from row `a` of chain `j`'s columns, as an index of the 512 by 512 arrays. -/
def atA {w : ℕ} (j : Fin 4) (a : ℕ) (x : (Sq w).Idx) : S512x512.Idx := fun b =>
  match b with
  | 0 => ⟨(a + (x 0).val) % 512, Nat.mod_lt _ (by decide)⟩
  | 1 => ⟨(128 * j.val + (x 1).val) % 512, Nat.mod_lt _ (by decide)⟩

/-- And of a piece from row `a` of a chain's gathered rows. -/
def atG {w : ℕ} (a : ℕ) (x : (Sq w).Idx) : S512x128.Idx := fun b =>
  match b with
  | 0 => ⟨(a + (x 0).val) % 512, Nat.mod_lt _ (by decide)⟩
  | 1 => ⟨(x 1).val % 128, Nat.mod_lt _ (by decide)⟩

theorem x0_lt {w : ℕ} (x : (Sq w).Idx) : (x 0).val < w := (x 0).isLt
theorem x1_lt {w : ℕ} (x : (Sq w).Idx) : (x 1).val < 128 := (x 1).isLt

theorem aR_emb {w : ℕ} {o : Fin 2 → ℕ} {a : ℕ} {j : Fin 4} (h : o = ![a, 128 * j.val]) (ho : ∀ b, o b + (Sq w).size b ≤ S512x512.size b)
    (x : (aR w o ho).shape.Idx) : (aR w o ho).emb x = atA (w := w) j a x := by
  subst h
  have h0 : a + w ≤ 512 := ho 0
  have h1 : 128 * j.val + 128 ≤ 512 := ho 1
  have hx0 : (x 0).val < w := (x 0).isLt
  have hx1 : (x 1).val < 128 := (x 1).isLt
  funext b; apply Fin.ext
  match b with
  | 0 => show a + 1 * (x 0).val = (a + (x 0).val) % 512; rw [Nat.mod_eq_of_lt (by omega)]; omega
  | 1 => show 128 * j.val + 1 * (x 1).val = (128 * j.val + (x 1).val) % 512; rw [Nat.mod_eq_of_lt (by omega)]; omega

theorem gR_emb {w : ℕ} {o : Fin 2 → ℕ} {a : ℕ} (h : o = ![a, 0]) (ho : ∀ b, o b + (Sq w).size b ≤ S512x128.size b)
    (x : (gR w o ho).shape.Idx) : (gR w o ho).emb x = atG (w := w) a x := by
  subst h
  have h0 : a + w ≤ 512 := ho 0
  have hx0 : (x 0).val < w := (x 0).isLt
  have hx1 : (x 1).val < 128 := (x 1).isLt
  funext b; apply Fin.ext
  match b with
  | 0 => show a + 1 * (x 0).val = (a + (x 0).val) % 512; rw [Nat.mod_eq_of_lt (by omega)]; omega
  | 1 => show 0 + 1 * (x 1).val = (x 1).val % 128; rw [Nat.mod_eq_of_lt (by omega)]; omega

/-- The rows `a` to `a + w` of chain `j`'s columns, of a chain's gathered rows, and of a piece buffer. -/
def rowsA (j : Fin 4) (a w : ℕ) : Finset S512x512.Idx :=
  Finset.univ.filter fun i => a ≤ (i 0).val ∧ (i 0).val < a + w ∧ 128 * j.val ≤ (i 1).val ∧ (i 1).val < 128 * j.val + 128
def rowsG (a w : ℕ) : Finset S512x128.Idx := Finset.univ.filter fun i => a ≤ (i 0).val ∧ (i 0).val < a + w
def rowsZ (a w : ℕ) : Finset S576x128.Idx := Finset.univ.filter fun i => a ≤ (i 0).val ∧ (i 0).val < a + w

theorem mem_rowsA {j : Fin 4} {a w : ℕ} {i : S512x512.Idx} :
    i ∈ rowsA j a w ↔ a ≤ (i 0).val ∧ (i 0).val < a + w ∧ 128 * j.val ≤ (i 1).val ∧ (i 1).val < 128 * j.val + 128 := by
  unfold rowsA; rw [Finset.mem_filter]; exact ⟨fun h => h.2, fun h => ⟨Finset.mem_univ _, h⟩⟩
theorem mem_rowsG {a w : ℕ} {i : S512x128.Idx} : i ∈ rowsG a w ↔ a ≤ (i 0).val ∧ (i 0).val < a + w := by
  unfold rowsG; rw [Finset.mem_filter]; exact ⟨fun h => h.2, fun h => ⟨Finset.mem_univ _, h⟩⟩
theorem mem_rowsZ {a w : ℕ} {i : S576x128.Idx} : i ∈ rowsZ a w ↔ a ≤ (i 0).val ∧ (i 0).val < a + w := by
  unfold rowsZ; rw [Finset.mem_filter]; exact ⟨fun h => h.2, fun h => ⟨Finset.mem_univ _, h⟩⟩

theorem aR_set {w : ℕ} {o : Fin 2 → ℕ} {a : ℕ} {j : Fin 4} (h : o = ![a, 128 * j.val]) (ho : ∀ b, o b + (Sq w).size b ≤ S512x512.size b) :
    (aR w o ho).set = rowsA j a w := by
  subst h; ext i
  rw [Rect.mem_set_unit, mem_rowsA]
  constructor
  · intro h; have h0 := h 0; have h1 := h 1
    exact ⟨h0.1, h0.2, h1.1, h1.2⟩
  · rintro ⟨h1, h2, h3, h4⟩ b
    match b with
    | 0 => exact ⟨h1, h2⟩
    | 1 => exact ⟨h3, h4⟩

theorem gR_set {w : ℕ} {o : Fin 2 → ℕ} {a : ℕ} (h : o = ![a, 0]) (ho : ∀ b, o b + (Sq w).size b ≤ S512x128.size b) :
    (gR w o ho).set = rowsG a w := by
  subst h; ext i
  rw [Rect.mem_set_unit, mem_rowsG]
  constructor
  · intro h; have h0 := h 0
    exact ⟨h0.1, h0.2⟩
  · rintro ⟨h1, h2⟩ b
    match b with
    | 0 => exact ⟨h1, h2⟩
    | 1 => exact ⟨Nat.zero_le _, by have := (i 1).isLt; show (i 1).val < 0 + 128; have h : (i 1).val < 128 := (i 1).isLt; omega⟩

theorem zR_set {w z : ℕ} (hz : ∀ a, (![z, 0] : Fin 2 → ℕ) a + (Sq w).size a ≤ S576x128.size a) : (zR w z hz).set = rowsZ z w := by
  ext i
  rw [Rect.mem_set_unit, mem_rowsZ]
  constructor
  · intro h; have h0 := h 0
    exact ⟨h0.1, h0.2⟩
  · rintro ⟨h1, h2⟩ b
    match b with
    | 0 => exact ⟨h1, h2⟩
    | 1 => exact ⟨Nat.zero_le _, by show (i 1).val < 0 + 128; have h : (i 1).val < 128 := (i 1).isLt; omega⟩

end Cert.KernelIdeal.AR

end
-- ==== Proof.Values.lean ====
/- What the buffers hold, as functions of the devices' blocks of the argument: the partial sums after each round, what
   is sent, the gathered rows, and the result. -/
module

public import proofs.«01_k».proof.Proof.Peers
public import Idealize.ShloMosaic.Lib.Pipeline.Value

@[expose] public section

set_option maxRecDepth 16384

noncomputable section

namespace Cert.KernelIdeal.AR

open Idealize.ShloMosaic Idealize.ShloMosaic.TcCoe
open Cert.KernelIdeal Cert.KernelIdeal.Gen

variable {F : FTy → Type} [FloatOps F] (X : Dev nD → S512x512.Idx → Elt F .bf16)

/-- A number widened to 32 bits, a number narrowed to 16, and a sum of 32-bit numbers. -/
def ext1 (x : Elt F .bf16) : Elt F .f32 := FloatOps.extf .f32 bitsLt_bf16_f32 x
def trunc1 (x : Elt F .f32) : Elt F .bf16 := FloatOps.truncf .bf16 bitsLt_bf16_f32 x
def add1 (x y : Elt F .f32) : Elt F .f32 := FloatOps.addf x y

/-- Chain `j`'s partial sum on device `c` after `n` rounds. -/
def A (j : Fin 4) : ℕ → Dev nD → S512x512.Idx → Elt F .f32
  | 0, c, i => ext1 (X c i)
  | n + 1, c, i =>
    add1 (A j n c i) (ext1 (match n with
      | 0 => X (pr j (Fin.ofNat 8 n) c) i
      | _ + 1 => trunc1 (A j n (pr j (Fin.ofNat 8 n) c) i)))

/-- What chain `j` sends in round `n`: the argument, then the partial sums. -/
def T (j : Fin 4) (n : ℕ) (c : Dev nD) (i : S512x512.Idx) : Elt F .bf16 :=
  match n with
  | 0 => X c i
  | _ + 1 => trunc1 (A X j n c i)

theorem A_succ (j : Fin 4) (n : ℕ) (c : Dev nD) (i : S512x512.Idx) :
    A X j (n + 1) c i = add1 (A X j n c i) (ext1 (T X j n (pr j (Fin.ofNat 8 n) c) i)) := by
  cases n <;> rfl

/-- Row `i`, column `k` of chain `j`, in the 512 by 512 arrays. -/
def colI (j : Fin 4) (i : S512x128.Idx) : S512x512.Idx := fun b =>
  match b with
  | 0 => ⟨(i 0).val, (i 0).isLt⟩
  | 1 => ⟨(128 * j.val + (i 1).val) % 512, Nat.mod_lt _ (by decide)⟩

/-- Chain `j`'s gathered rows, as device `c` ends up holding them. -/
def gV (j : Fin 4) (c : Dev nD) (i : S512x128.Idx) : Elt F .bf16 := T X j 5 (owner j c ((i 0).val / 64)) (colI j i)

/-- Chain `j`'s columns of the result on device `c`. -/
def O (j : Fin 4) (c : Dev nD) (i : S512x512.Idx) : Elt F .f32 := ext1 (T X j 5 (owner j c ((i 0).val / 64)) i)

/-- What the copy of round `r` of chain `j` carries from device `d`. -/
def sval (j : Fin 4) (r : Fin 8) (d : Dev nD) : (Sq (wd r)).Idx → Elt F .bf16 :=
  match r with
  | 5 => fun x => gV X j d (atG (gRow j 5 d) x)
  | 6 => fun x => gV X j d (atG (gRow j 6 d) x)
  | 7 => fun x => gV X j d (atG (gRow j 7 d) x)
  | r => fun x => T X j r.val d (atA j (sendRow j r d) x)

/-- The gathered rows are the same for both partners of a gathering round. -/
theorem gV_pr (j : Fin 4) (r : Fin 8) (h : 5 ≤ r) (c : Dev nD) : gV X j (pr j r c) = gV X j c := by
  funext i
  have hi : (i 0).val < 512 := (i 0).isLt
  unfold gV
  rw [owner_pr j r c h ⟨(i 0).val / 64, by omega⟩]

/-- The rows a device has summed are gathered rows of its own. -/
theorem gV_own (j : Fin 4) (c : Dev nD) (x : (Sq 64).Idx) : gV X j c (atG (row3 j c) x) = T X j 5 c (atA j (row3 j c) x) := by
  have h1 := row1_le j c; have h2 := row2_le j c; have h3 := row3_le j c
  have hx := x0_lt x; have hm := row3_mod j c; have hx1 := x1_lt x
  have hj := j.2
  unfold gV
  have e : ((atG (row3 j c) x) 0).val / 64 = row3 j c / 64 := by
    show (row3 j c + (x 0).val) % 512 / 64 = _
    omega
  rw [e, owner_self]
  congr 1
  funext b; apply Fin.ext
  match b with
  | 0 => rfl
  | 1 => show (128 * j.val + (x 1).val % 128) % 512 = (128 * j.val + (x 1).val) % 512; omega

/-- Widened, they are the result. -/
theorem O_gV (j : Fin 4) (c : Dev nD) {w : ℕ} (a : ℕ) (x : (Sq w).Idx) : ext1 (gV X j c (atG a x)) = O X j c (atA j a x) := by
  have hx1 := x1_lt x; have hj := j.2
  unfold O gV
  have e : colI j (atG a x) = atA j a x := by
    funext b; apply Fin.ext
    match b with
    | 0 => rfl
    | 1 => show (128 * j.val + (x 1).val % 128) % 512 = (128 * j.val + (x 1).val) % 512; omega
  rw [e]; rfl

/-! ## What the steps store -/

theorem payX_eq {w : ℕ} (x : Vec F (Sq w) .bf16) : payX x = x := by unfold payX; rw [shapeCast_self, shapeCast_self]
theorem payA0_eq {w : ℕ} (x b : Vec F (Sq w) .bf16) : payA0 x b = fun i => add1 (ext1 (x i)) (ext1 (b i)) := by
  unfold payA0; rw [shapeCast_self, shapeCast_self]; rfl
theorem payA_eq {w : ℕ} (a : FVec F (Sq w) .f32) (b : Vec F (Sq w) .bf16) : payA a b = fun i => add1 (a i) (ext1 (b i)) := by
  unfold payA; rw [shapeCast_self]; rfl
theorem payT_eq {w : ℕ} (a : FVec F (Sq w) .f32) : payT a = fun i => trunc1 (a i) := by
  unfold payT; rw [shapeCast_self]; rfl
theorem payG_eq {w : ℕ} (a : FVec F (Sq w) .f32) (b : Vec F (Sq w) .bf16) : payG a b = fun i => trunc1 (add1 (a i) (ext1 (b i))) := by
  unfold payG; rw [shapeCast_self]; rfl
theorem payO_eq {w : ℕ} (g : Vec F (Sq w) .bf16) : payO g = fun i => ext1 (g i) := rfl

end Cert.KernelIdeal.AR

end
-- ==== Proof.Own.lean ====
/- Ownership of part of a buffer by what is read there: `Own M c S q v` holds the elements of the memref `M` with
   index in `S`, at share `q`, and says that reading them gives `v`. The lemmas split and join it, and load and store
   through it. -/
module

public import proofs.«01_k».proof.Proof.Program
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type} [FloatOps F]

/-- The ghost state: the pipeline's rounds and the kernel's own, whose duties are named by the five directions. -/
abbrev UB : Type := URounds (GSem nD τ sig) (Fin 5)
abbrev UU : Type := UR sig nD τ × UB

local notation "𝕄" => MT nD τ sig Unit (Elt F) ℕ UU ℕ

abbrev 𝒱₀ : Variants := Variants.none

section Own
variable {s : Shape} {e : EltTy} (M : Memref sig .tc .vmem s e) (c : Dev nD)

/-- The elements of `M` on device `c` with index in `S`, at share `q`; reading them gives `v`. -/
def Own (S : Finset s.Idx) (q : PosShare TreeShare) (v : s.Idx → Elt F e) : sProp 𝕄 :=
  iprop(∃ f : Buf (Elt F) (M.view.loc (c : Thread nD τ)), ⌜∀ x ∈ S, M.view.read (Elt F) f x = v x⌝
    ∗ (M.view.loc (c : Thread nD τ) ↦[M.view.setOn S]{q} f))

/-- Those elements outright, whatever they hold. -/
def OwnE (S : Finset s.Idx) : sProp 𝕄 := iprop(∃ v : s.Idx → Elt F e, Own M c S fullShare v)

instance own_storable (S : Finset s.Idx) (q : PosShare TreeShare) (v : s.Idx → Elt F e) :
    BI.Storable (upEmb : UEmb _ 𝕄) (Own (F := F) M c S q v) := by unfold Own; infer_instance
instance ownE_storable (S : Finset s.Idx) : BI.Storable (upEmb : UEmb _ 𝕄) (OwnE (F := F) M c S) := by
  unfold OwnE; infer_instance

variable {M c}

theorem emb_mem (r : Rect s) (x : r.shape.Idx) : r.emb x ∈ r.set := by
  rw [← Rect.map_emb_univ]; exact Finset.mem_map_of_mem _ (Finset.mem_univ x)

/-- Only what is read on `S` matters. -/
theorem own_congr {S : Finset s.Idx} {q : PosShare TreeShare} {v w : s.Idx → Elt F e} (h : ∀ x ∈ S, v x = w x) :
    (Own M c S q v : sProp 𝕄) ⊢ Own M c S q w := by
  unfold Own
  iintro ⟨%f, %hf, H⟩
  iexists f
  isplitr; · ipureintro; exact fun x hx => (hf x hx).trans (h x hx)
  iexact H

theorem own_ownE {S : Finset s.Idx} {v : s.Idx → Elt F e} : (Own M c S fullShare v : sProp 𝕄) ⊢ OwnE M c S := by
  unfold OwnE; iintro H; iexists v; iexact H

/-- Equal reads at an index are equal contents there. -/
theorem read_inj {f g : Buf (Elt F) (M.view.loc (c : Thread nD τ))} {x : s.Idx}
    (h : M.view.read (Elt F) f x = M.view.read (Elt F) g x) : f (M.view.emb x) = g (M.view.emb x) :=
  cast_inj _ |>.mp h

theorem setOn_disjoint {S T : Finset s.Idx} (h : Disjoint S T) : Disjoint (M.view.setOn S) (M.view.setOn T) :=
  (Finset.disjoint_map _).mpr h

theorem setOn_union (S T : Finset s.Idx) [DecidableEq s.Idx] : M.view.setOn (S ∪ T) = M.view.setOn S ∪ M.view.setOn T := by
  unfold View.setOn; ext i; simp only [Finset.mem_map, Finset.mem_union]
  constructor
  · rintro ⟨x, hx | hx, rfl⟩
    · exact .inl ⟨x, hx, rfl⟩
    · exact .inr ⟨x, hx, rfl⟩
  · rintro (⟨x, hx, rfl⟩ | ⟨x, hx, rfl⟩)
    · exact ⟨x, .inl hx, rfl⟩
    · exact ⟨x, .inr hx, rfl⟩

/-- Disjoint parts, apart. -/
theorem own_split {S T U : Finset s.Idx} (hU : ∀ x, x ∈ U ↔ x ∈ S ∨ x ∈ T) (h : Disjoint S T) {q : PosShare TreeShare}
    {v : s.Idx → Elt F e} : (Own M c U q v : sProp 𝕄) ⊢ iprop(Own M c S q v ∗ Own M c T q v) := by
  have hU' : M.view.setOn U = M.view.setOn S ∪ M.view.setOn T := by
    rw [← setOn_union]; congr 1; ext x; rw [Finset.mem_union]; exact hU x
  unfold Own
  iintro ⟨%f, %hf, H⟩
  rw [hU']
  ihave H := (pointsTo_union (setOn_disjoint h)).1 $$ H
  icases H with ⟨H1, H2⟩
  isplitl [H1]
  · iexists f
    isplitr; · ipureintro; exact fun x hx => hf x ((hU x).mpr (.inl hx))
    iexact H1
  · iexists f
    isplitr; · ipureintro; exact fun x hx => hf x ((hU x).mpr (.inr hx))
    iexact H2

/-- Disjoint parts, together. -/
theorem own_join {S T U : Finset s.Idx} (hU : ∀ x, x ∈ U ↔ x ∈ S ∨ x ∈ T) (h : Disjoint S T) {q : PosShare TreeShare}
    {v : s.Idx → Elt F e} : iprop(Own M c S q v ∗ Own M c T q v) ⊢ (Own M c U q v : sProp 𝕄) := by
  have hU' : M.view.setOn U = M.view.setOn S ∪ M.view.setOn T := by
    rw [← setOn_union]; congr 1; ext x; rw [Finset.mem_union]; exact hU x
  unfold Own
  iintro ⟨⟨%f, %hf, H1⟩, %g, %hg, H2⟩
  ihave H := (pointsTo_join (f := f) (g := g) (setOn_disjoint h)) $$ [H1 H2]
  · isplitl [H1] <;> iassumption
  rw [hU']
  iexists _
  isplitr
  rotate_left
  · iexact H
  · ipureintro
    intro x hx
    by_cases hT : x ∈ T
    · exact (congrArg _ (Finset.piecewise_eq_of_mem _ _ _ (View.mem_setOn _ |>.mpr hT))).trans (hg x hT)
    · exact (congrArg _ (Finset.piecewise_eq_of_notMem _ _ _ (fun h' => hT (View.mem_setOn _ |>.mp h')))).trans
        (hf x (((hU x).mp hx).resolve_right hT))

/-- The same with unknown contents. -/
theorem ownE_split {S T U : Finset s.Idx} (hU : ∀ x, x ∈ U ↔ x ∈ S ∨ x ∈ T) (h : Disjoint S T) :
    (OwnE M c U : sProp 𝕄) ⊢ iprop(OwnE M c S ∗ OwnE M c T) := by
  unfold OwnE
  iintro ⟨%v, H⟩
  ihave H := (own_split hU h) $$ H
  icases H with ⟨H1, H2⟩
  isplitl [H1]
  · iexists v; iexact H1
  · iexists v; iexact H2

theorem ownE_join {S T U : Finset s.Idx} (hU : ∀ x, x ∈ U ↔ x ∈ S ∨ x ∈ T) (h : Disjoint S T) :
    iprop(OwnE M c S ∗ OwnE M c T) ⊢ (OwnE M c U : sProp 𝕄) := by
  classical
  unfold OwnE
  iintro ⟨⟨%v, H1⟩, %w, H2⟩
  iexists T.piecewise w v
  iapply (own_join hU h)
  isplitl [H1]
  · iapply (own_congr (v := v) fun x hx => (Finset.piecewise_eq_of_notMem _ _ _ (Finset.disjoint_left.mp h hx)).symm); iexact H1
  · iapply (own_congr (v := w) fun x hx => (Finset.piecewise_eq_of_mem _ _ _ hx).symm); iexact H2

/-- One share as two. -/
theorem own_share {S : Finset s.Idx} {q q₁ q₂ : PosShare TreeShare} (h : q ∈ q₁ ·? q₂) {v : s.Idx → Elt F e} :
    (Own M c S q v : sProp 𝕄) ⊢ iprop(Own M c S q₁ v ∗ Own M c S q₂ v) := by
  unfold Own
  iintro ⟨%f, %hf, H⟩
  ihave H := (pointsTo_share h).1 $$ H
  icases H with ⟨H1, H2⟩
  isplitl [H1]
  · iexists f; isplitr; · (ipureintro; exact hf)
    iexact H1
  · iexists f; isplitr; · (ipureintro; exact hf)
    iexact H2

/-- Two shares as one. -/
theorem own_unshare {S : Finset s.Idx} {q q₁ q₂ : PosShare TreeShare} (h : q ∈ q₁ ·? q₂) {v : s.Idx → Elt F e} :
    iprop(Own M c S q₁ v ∗ Own M c S q₂ v) ⊢ (Own M c S q v : sProp 𝕄) := by
  unfold Own
  iintro ⟨⟨%f, %hf, H1⟩, %g, %hg, H2⟩
  have e1 : ∀ i ∈ M.view.setOn S, g i = f i := fun i hi => by
    obtain ⟨x, hx, rfl⟩ := Finset.mem_map.mp hi
    exact read_inj ((hg x hx).trans (hf x hx).symm)
  ihave H2 := (Entails.of_eq (pointsTo_congr (q := q₂) e1)) $$ H2
  iexists f
  isplitr; · ipureintro; exact hf
  iapply (pointsTo_share h).2
  isplitl [H1] <;> iassumption

/-- A rectangle of `M` is the whole of the slice. -/
theorem own_slice (r : Rect s) (hr : ∀ a, r.stride a = 1) {q : PosShare TreeShare} {v : s.Idx → Elt F e} :
    (Own M c r.set q v : sProp 𝕄) ⊢ Own (M.slice r hr) c Finset.univ q (fun x => v (r.emb x)) := by
  have hs : (M.slice r hr).view.setOn Finset.univ = M.view.setOn r.set := by
    rw [View.setOn_univ]; exact View.set_slice _ r
  unfold Own
  iintro ⟨%f, %hf, H⟩
  iexists f
  isplitr; · ipureintro; exact fun x _ => hf _ (emb_mem r x)
  rw [hs]; iexact H

theorem own_unslice (r : Rect s) (hr : ∀ a, r.stride a = 1) {q : PosShare TreeShare} {v : s.Idx → Elt F e} :
    (Own (M.slice r hr) c Finset.univ q (fun x => v (r.emb x)) : sProp 𝕄) ⊢ Own M c r.set q v := by
  have hs : (M.slice r hr).view.setOn Finset.univ = M.view.setOn r.set := by
    rw [View.setOn_univ]; exact View.set_slice _ r
  unfold Own
  iintro ⟨%f, %hf, H⟩
  iexists f
  isplitr
  · ipureintro
    intro x hx
    obtain ⟨y, -, rfl⟩ := Finset.mem_map.mp (show x ∈ Finset.univ.map r.emb by rw [Rect.map_emb_univ]; exact hx)
    exact hf y (Finset.mem_univ _)
  rw [← hs]; iexact H

theorem ownE_slice (r : Rect s) (hr : ∀ a, r.stride a = 1) :
    (OwnE M c r.set : sProp 𝕄) ⊢ OwnE (M.slice r hr) c Finset.univ := by
  unfold OwnE
  iintro ⟨%v, H⟩
  iexists _
  iapply (own_slice r hr (v := v)); iexact H

theorem ownE_unslice (r : Rect s) (hr : ∀ a, r.stride a = 1) (d : Elt F e) :
    (OwnE (M.slice r hr) c Finset.univ : sProp 𝕄) ⊢ OwnE M c r.set := by
  classical
  unfold OwnE
  iintro ⟨%v, H⟩
  iexists (fun i => if h : ∃ x, r.emb x = i then v h.choose else d)
  iapply (own_unslice r hr)
  iapply (own_congr (v := v) fun x _ => ?_)
  · rw [dif_pos ⟨x, rfl⟩]
    exact congrArg v (r.emb.injective (Exists.choose_spec (p := fun y => r.emb y = r.emb x) ⟨x, rfl⟩)).symm
  · iexact H

variable {α : Type} {Q : α → sProp (MT nD τ sig Unit (Elt F) ℕ UU ℕ)}

/-- A load of a rectangle of what is owned. -/
theorem own_load {S : Finset s.Idx} {q : PosShare TreeShare} {v : s.Idx → Elt F e} {r : Rect s} (hS : r.set ⊆ S)
    {hl : M.view.LoadsAt r} {k : (r.shape.Idx → Elt F e) → Prog (TpuEff nD τ sig (Elt F) Λ₀ .tc) α} :
    (Own M c S q v : sProp 𝕄)
      ⊢ iprop((Own M c S q v -∗ wp frame (wpE (defs₀ (F := F)) 𝒱₀ (c : Thread nD τ) none) Set.univ (k (fun x => v (r.emb x))) Q)
          -∗ wp frame (wpE (defs₀ (F := F)) 𝒱₀ (c : Thread nD τ) none) Set.univ (.op (.load M r hl) k) Q) := by
  unfold Own
  iintro ⟨%f, %hf, H⟩ Hk
  have hr : (M.access r).read (Elt F) f = fun x => v (r.emb x) := funext fun x => hf _ (hS (emb_mem r x))
  iapply (wp_load_rect 𝒱₀ (c : Thread nD τ) none Set.univ (m := M) (r := r)
    (show (M.view.slice r).set ⊆ M.view.setOn S by rw [View.set_slice]; exact Finset.map_subset_map.mpr hS)) $$ H
  iintro H
  rw [hr]
  iapply Hk
  iexists f
  isplitr; · ipureintro; exact hf
  iexact H

/-- A load of exactly a slice that is owned. -/
theorem own_load_slice {q : PosShare TreeShare} {r : Rect s} {hr : ∀ a, r.stride a = 1} {v : r.shape.Idx → Elt F e}
    {hl : M.view.LoadsAt r} {k : (r.shape.Idx → Elt F e) → Prog (TpuEff nD τ sig (Elt F) Λ₀ .tc) α} :
    (Own (M.slice r hr) c Finset.univ q v : sProp 𝕄)
      ⊢ iprop((Own (M.slice r hr) c Finset.univ q v -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  unfold Own
  iintro ⟨%f, %hf, H⟩ Hk
  have hv : (M.access r).read (Elt F) f = v := funext fun x => hf x (Finset.mem_univ _)
  iapply (wp_load_rect 𝒱₀ (c : Thread nD τ) none Set.univ (m := M) (r := r)
    (show (M.view.slice r).set ⊆ (M.slice r hr).view.setOn Finset.univ from Finset.Subset.refl _)) $$ H
  iintro H
  rw [hv]
  iapply Hk
  iexists f
  isplitr; · ipureintro; exact hf
  iexact H

/-- A store of a rectangle of what is owned: there the new values, elsewhere the old. -/
theorem own_store {S : Finset s.Idx} {v : s.Idx → Elt F e} {r : Rect s} (hS : r.set ⊆ S) {w : r.shape.Idx → Elt F e}
    {hx : (M.access r).Stores Finset.univ} {hm : Finset.univ = Finset.univ ∨ ∀ a, r.stride a = 1}
    {k : PUnit → Prog (TpuEff nD τ sig (Elt F) Λ₀ .tc) α} :
    (Own M c S fullShare v : sProp 𝕄)
      ⊢ iprop((∀ v', ⌜(∀ x, v' (r.emb x) = w x) ∧ ∀ i ∈ S, i ∉ r.set → v' i = v i⌝ -∗ Own M c S fullShare v'
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold Own
  iintro ⟨%f, %hf, H⟩ Hk
  iapply (wp_store 𝒱₀ (c : Thread nD τ) none Set.univ (m := M) (r := r) (w := w) (Mk := Finset.univ)
    (show (M.view.slice r).set ⊆ M.view.setOn S by rw [View.set_slice]; exact Finset.map_subset_map.mpr hS)) $$ H
  iintro H
  iapply Hk $$ %(M.view.read (Elt F) ((M.access r).write (Elt F) f w Finset.univ)) [] [H]
  · ipureintro
    refine ⟨fun x => congrFun (View.read_write_univ (v := M.access r) f w) x, fun i hi hn => ?_⟩
    rw [← hf i hi, View.read_apply, View.read_apply, View.write_of_not_mem]
    rw [View.setOn_univ, show (M.access r).set = r.set.map M.view.emb from View.set_slice _ r]
    exact fun h => hn ((Finset.mem_map' _).mp h)
  · iexists _
    isplitr
    rotate_left
    · iexact H
    · ipureintro; exact fun _ _ => rfl

/-- A store over exactly a slice that is owned. -/
theorem own_store_slice {r : Rect s} {hr : ∀ a, r.stride a = 1} {v w : r.shape.Idx → Elt F e}
    {hx : (M.access r).Stores Finset.univ} {hm : Finset.univ = Finset.univ ∨ ∀ a, r.stride a = 1}
    {k : PUnit → Prog (TpuEff nD τ sig (Elt F) Λ₀ .tc) α} :
    (Own (M.slice r hr) c Finset.univ fullShare v : sProp 𝕄)
      ⊢ iprop((Own (M.slice r hr) c Finset.univ fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold Own
  iintro ⟨%f, %hf, H⟩ Hk
  iapply (wp_store 𝒱₀ (c : Thread nD τ) none Set.univ (m := M) (r := r) (w := w) (Mk := Finset.univ)
    (show (M.view.slice r).set ⊆ (M.slice r hr).view.setOn Finset.univ from Finset.Subset.refl _)) $$ H
  iintro H
  iapply Hk
  iexists _
  isplitr
  rotate_left
  · iexact H
  · ipureintro; exact fun x _ => congrFun (View.read_write_univ (v := M.access r) f w) x

end Own

end Cert.KernelIdeal.AR

end
-- ==== Proof.Sched.lean ====
/- The schedule of the semaphores: who pays what into which semaphore, what is handed over with each payment, what each
   device owes at the start, and the order in which the semaphores may be waited for. -/
module

public import proofs.«01_k».proof.Proof.Values
public import proofs.«01_k».proof.Proof.Own

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A star over pairs, either way round. -/
theorem star_comm {I J : Type} [Fintype I] [Fintype J] (Φ : I → J → sProp 𝕄) :
    (bigSep Finset.univ fun i => bigSep Finset.univ fun k => Φ i k) = bigSep Finset.univ fun k => bigSep Finset.univ fun i => Φ i k := by
  rw [← bigSep_univ_prod (fun p : I × J => Φ p.1 p.2), ← bigSep_univ_prod (fun p : J × I => Φ p.2 p.1),
    bigSep_univ_equiv (Equiv.prodComm J I) (fun p : I × J => Φ p.1 p.2)]
  rfl

/-- A star of which one member only says something. -/
theorem star_pick {I : Type} [Fintype I] [DecidableEq I] (i : I) (Φ : I → sProp 𝕄) :
    (bigSep Finset.univ fun k => if k = i then Φ k else iprop(emp)) = Φ i := by
  refine (bigSep_filter Finset.univ (· = i) Φ).symm.trans ?_
  rw [Finset.filter_eq', if_pos (Finset.mem_univ _), bigSep_singleton]

/-! ## The semaphores -/

/-- A device's semaphores: the barrier, and a sending (`false`) and a receiving (`true`) one for each chain and round. -/
abbrev Ci : Type := Option (Bool × Fin 4 × Fin 8)

abbrev osem : Bool × Fin 4 × Fin 8 → SemLoc sig := fun x => if x.1 then .dma (rS x.2.1 x.2.2) else .dma (sS x.2.1 x.2.2)
abbrev csem : Ci → SemLoc sig
  | none => .reg barS
  | some x => osem x
abbrev kcell (ck : Dev nD × Ci) : GSem nD τ sig := ((ck.1 : Thread nD τ), csem ck.2)
abbrev barC (c : Dev nD) : GSem nD τ sig := ((c : Thread nD τ), .reg barS)
abbrev sC (c : Dev nD) (j : Fin 4) (r : Fin 8) : GSem nD τ sig := ((c : Thread nD τ), .dma (sS j r))
abbrev rC (c : Dev nD) (j : Fin 4) (r : Fin 8) : GSem nD τ sig := ((c : Thread nD τ), .dma (rS j r))

/-- The chain and the round of a sending or receiving semaphore. -/
def jOf (q : DmaSem sig) : Fin 4 := Fin.ofNat 4 ((q.val - 2) / 8)
def rOf (q : DmaSem sig) : Fin 8 := Fin.ofNat 8 (q.val - 2)

theorem jOf_sS : ∀ j r, jOf (sS j r) = j := by decide +kernel
theorem jOf_rS : ∀ j r, jOf (rS j r) = j := by decide +kernel
theorem rOf_sS : ∀ j r, rOf (sS j r) = r := by decide +kernel
theorem rOf_rS : ∀ j r, rOf (rS j r) = r := by decide +kernel
theorem sS_ge : ∀ j r, ¬ (sS j r).val < 2 := by decide +kernel
theorem rS_ge : ∀ j r, ¬ (rS j r).val < 2 := by decide +kernel
theorem sS_lt : ∀ j r, (sS j r).val < 34 := by decide +kernel
theorem rS_nlt : ∀ j r, ¬ (rS j r).val < 34 := by decide +kernel

/-- What a copy of round `r` adds to its semaphores. -/
abbrev amt (r : Fin 8) : ℕ := (dstV 0 0 r).view.dmaCredit
theorem amt_pos (r : Fin 8) : 0 < amt r := by
  match r with
  | 0 | 1 | 2 | 3 | 4 | 5 | 6 | 7 => exact View.dmaCredit_pos _ (by decide)
theorem src_credit (d : Dev nD) (j : Fin 4) (r : Fin 8) : (srcV d j r).view.dmaCredit = amt r := by
  match r with
  | 0 | 1 | 2 | 3 | 4 | 5 | 6 | 7 => rfl
theorem dst_credit (d : Dev nD) (j : Fin 4) (r : Fin 8) : (dstV d j r).view.dmaCredit = amt r := by
  match r with
  | 0 | 1 | 2 | 3 | 4 | 5 | 6 | 7 => rfl

/-! ## What is handed over -/

variable (X : Dev nD → S512x512.Idx → Elt F .bf16)

/-- The share of the source rows a copy takes: the gathered rows go on being read while they are sent. -/
def shr (r : Fin 8) : PosShare TreeShare :=
  match r with
  | 5 => fullShare.left | 6 => fullShare.right.left | 7 => fullShare.right.right | _ => fullShare

/-- The rows of device `c` that its partner of round `r` writes, whatever they hold. -/
def LZ (j : Fin 4) (r : Fin 8) (c : Dev nD) : sProp 𝕄 := OwnE (dstV (pr j r c) j r) c Finset.univ
/-- Those rows holding what the partner sent. -/
def recvPay (c : Dev nD) (j : Fin 4) (r : Fin 8) : sProp 𝕄 :=
  Own (dstV (pr j r c) j r) c Finset.univ fullShare (sval X j r (pr j r c))
/-- The rows a device sends from, given back. -/
def sendPay (c : Dev nD) (j : Fin 4) (r : Fin 8) : sProp 𝕄 := Own (srcV c j r) c Finset.univ (shr r) (sval X j r c)
/-- What the device in direction `d` of `c` hands `c` through the barrier: the rows `c` will write there. -/
def barPay (c : Dev nD) (d : Fin 5) : sProp 𝕄 :=
  bigSep Finset.univ fun x : Fin 4 × Fin 8 => if d = dim x.1 x.2 then LZ x.1 x.2 (nb d c) else iprop(emp)

/-- The payload of duty `d` of a device's semaphore. -/
def payOf (c : Dev nD) (s : SemLoc sig) (d : Fin 5) : sProp 𝕄 :=
  match s with
  | .reg _ => barPay c d
  | .dma q => if q.val < 2 then iprop(emp) else if q.val < 34 then sendPay X c (jOf q) (rOf q) else recvPay X c (jOf q) (rOf q)

/-- The duties of a semaphore: five for the barrier, one for a sending or receiving one. -/
def dutOf (s : SemLoc sig) : Finset (Fin 5) :=
  match s with
  | .reg _ => Finset.univ
  | .dma q => if q.val < 2 then ∅ else {0}

def amtOf (s : SemLoc sig) : ℕ :=
  match s with
  | .reg _ => 1
  | .dma q => amt (rOf q)

/-- One round: every duty is paid once. -/
def Rd : Rounds.Schedule (GSem nD τ sig) (Fin 5) 𝕄 where
  duties g r := if r = 0 ∧ g.1.2 = .tc then dutOf g.2 else ∅
  unitless _ := False
  amount g _ _ := amtOf g.2
  payload g _ d := payOf X g.1.1 g.2 d
  amount_pos g _ _ _ := by
    show 0 < amtOf g.2
    unfold amtOf
    split
    · exact Nat.one_pos
    · exact amt_pos _

instance Rd_storable (g : GSem nD τ sig) (r : ℕ) (d : Fin 5) :
    BI.Storable (upEmb : UEmb _ 𝕄) ((Rd (F := F) X).payload g r d) := by
  show BI.Storable upEmb (payOf X g.1.1 g.2 d)
  unfold payOf barPay sendPay recvPay LZ
  split
  · have : ∀ x : Fin 4 × Fin 8, BI.Storable (upEmb : UEmb _ 𝕄)
        (if d = dim x.1 x.2 then OwnE (F := F) (dstV (pr x.1 x.2 (nb d g.1.1)) x.1 x.2) (nb d g.1.1) Finset.univ else iprop(emp)) := fun x => by
      split <;> infer_instance
    infer_instance
  · (repeat' split) <;> infer_instance

section Facts
variable (c : Dev nD) (j : Fin 4) (r : Fin 8)

theorem duties_0 (s : SemLoc sig) : (Rd (F := F) X).duties ((c : Thread nD τ), s) 0 = dutOf s := by
  dsimp only [Rd]; exact if_pos ⟨rfl, rfl⟩
theorem dutOf_dma {q : DmaSem sig} (h : ¬ q.val < 2) : dutOf (.dma q) = {0} := if_neg h

theorem duties_bar : (Rd (F := F) X).duties (barC c) 0 = Finset.univ := duties_0 X c _
theorem duties_s : (Rd (F := F) X).duties (sC c j r) 0 = {0} :=
  (duties_0 X c _).trans (dutOf_dma (sS_ge j r))
theorem duties_r : (Rd (F := F) X).duties (rC c j r) 0 = {0} :=
  (duties_0 X c _).trans (dutOf_dma (rS_ge j r))
theorem duties_later (g : GSem nD τ sig) : ∀ n, 1 ≤ n → (Rd (F := F) X).duties g n = ∅ :=
  fun n hn => if_neg fun h => by have := h.1; omega

theorem amount_bar (d : Fin 5) : (Rd (F := F) X).amount (barC c) 0 d = 1 := rfl
theorem amount_s (d : Fin 5) : (Rd (F := F) X).amount (sC c j r) 0 d = amt r := by
  show amt (rOf (sS j r)) = _; rw [rOf_sS]
theorem amount_r (d : Fin 5) : (Rd (F := F) X).amount (rC c j r) 0 d = amt r := by
  show amt (rOf (rS j r)) = _; rw [rOf_rS]

theorem expect_bar : (Rd (F := F) X).expect (barC c) 0 = 5 := by
  unfold Schedule.expect Schedule.amountOf
  rw [duties_bar, Finset.sum_congr rfl fun d _ => amount_bar X c d]; rfl
theorem expect_s : (Rd (F := F) X).expect (sC c j r) 0 = amt r := by
  unfold Schedule.expect Schedule.amountOf; rw [duties_s, Finset.sum_singleton, amount_s]
theorem expect_r : (Rd (F := F) X).expect (rC c j r) 0 = amt r := by
  unfold Schedule.expect Schedule.amountOf; rw [duties_r, Finset.sum_singleton, amount_r]

theorem payload_bar (d : Fin 5) : (Rd (F := F) X).payload (barC c) 0 d = barPay c d := rfl
theorem payload_s (d : Fin 5) : (Rd (F := F) X).payload (sC c j r) 0 d = sendPay X c j r := by
  show (if _ then _ else if _ then sendPay X c (jOf (sS j r)) (rOf (sS j r)) else _) = _
  rw [if_neg (sS_ge j r), if_pos (sS_lt j r), jOf_sS, rOf_sS]
theorem payload_r (d : Fin 5) : (Rd (F := F) X).payload (rC c j r) 0 d = recvPay X c j r := by
  show (if _ then _ else if _ then _ else recvPay X c (jOf (rS j r)) (rOf (rS j r))) = _
  rw [if_neg (rS_ge j r), if_neg (rS_nlt j r), jOf_rS, rOf_rS]

theorem rest_s : bigSep ((Rd (F := F) X).duties (sC c j r) 0 \ ∅) (fun d => (Rd (F := F) X).payload (sC c j r) 0 d) = sendPay X c j r := by
  rw [Finset.sdiff_empty, duties_s, bigSep_singleton, payload_s]
theorem rest_r : bigSep ((Rd (F := F) X).duties (rC c j r) 0 \ ∅) (fun d => (Rd (F := F) X).payload (rC c j r) 0 d) = recvPay X c j r := by
  rw [Finset.sdiff_empty, duties_r, bigSep_singleton, payload_r]

/-- What the barrier's five partners hand over: every row the device will write on another. -/
theorem rest_bar : bigSep ((Rd (F := F) X).duties (barC c) 0 \ ∅) (fun d => (Rd (F := F) X).payload (barC c) 0 d)
    = bigSep Finset.univ fun x : Fin 4 × Fin 8 => (LZ x.1 x.2 (pr x.1 x.2 c) : sProp 𝕄) := by
  rw [Finset.sdiff_empty, duties_bar, bigSep_congr fun d _ => payload_bar X c d]
  unfold barPay
  rw [star_comm]
  refine bigSep_congr fun x _ => ?_
  exact star_pick (dim x.1 x.2) fun d => LZ x.1 x.2 (nb d c)

/-- A device's rows that others write, dealt by direction. -/
theorem bar_deal : (bigSep Finset.univ fun x : Fin 4 × Fin 8 => (LZ x.1 x.2 c : sProp 𝕄))
    = bigSep Finset.univ fun d : Fin 5 => (Rd (F := F) X).payload (barC (nb d c)) 0 d := by
  rw [bigSep_congr fun d _ => payload_bar X (nb d c) d]
  unfold barPay
  rw [star_comm]
  refine bigSep_congr fun x _ => ?_
  rw [star_pick (dim x.1 x.2) fun d => LZ x.1 x.2 (nb d (nb d c)), nb_nb]

end Facts

/-! ## What is owed, and the levels -/

/-- The copies are issued in the order of their rounds, in a round in the order of the chains: chain and round of the
    `i`-th. -/
def cpJ (i : ℕ) : Fin 4 := Fin.ofNat 4 i
def cpR (i : ℕ) : Fin 8 := Fin.ofNat 8 (i / 4)

/-- What device `c` owes by the copies from the `m`-th on, the next one last in the sum. -/
def oweF (c : Dev nD) (i : ℕ) : CellTallies nD τ sig Unit := tallyAt (rC (pr (cpJ i) (cpR i) c) (cpJ i) (cpR i)) () (amt (cpR i))
def owe (c : Dev nD) (m : ℕ) : CellTallies nD τ sig Unit := ∑ i ∈ Finset.range (32 - m), oweF c (31 - i)
/-- What it owes while `k` of its signals are still to come. -/
def oweB (c : Dev nD) (k : ℕ) : CellTallies nD τ sig Unit :=
  owe c 0 + ∑ i ∈ Finset.range k, tallyAt (barC (nb (Fin.ofNat 5 (4 - i)) c)) () 1

theorem owe_32 (c : Dev nD) : owe c 32 = 0 := rfl
theorem oweB_0 (c : Dev nD) : oweB c 0 = owe c 0 := by unfold oweB; rw [Finset.sum_range_zero, add_zero]
theorem owe_step (c : Dev nD) (j : Fin 4) (r : Fin 8) :
    owe c (4 * r.val + j.val) = owe c (4 * r.val + j.val + 1) + tallyAt (rC (pr j r c) j r) () (amt r) := by
  have hj := j.2; have hr := r.2
  unfold owe
  rw [show 32 - (4 * r.val + j.val) = (32 - (4 * r.val + j.val + 1)) + 1 by omega, Finset.sum_range_succ]
  congr 1
  rw [show 31 - (32 - (4 * r.val + j.val + 1)) = 4 * r.val + j.val by omega]
  have h1 : cpJ (4 * r.val + j.val) = j := Fin.ext (by show (4 * r.val + j.val) % 4 = _; omega)
  have h2 : cpR (4 * r.val + j.val) = r := Fin.ext (by show (4 * r.val + j.val) / 4 % 8 = _; omega)
  unfold oweF
  rw [h1, h2]
theorem oweB_step (c : Dev nD) (d : Fin 5) :
    oweB c (5 - d.val) = oweB c (4 - d.val) + tallyAt (barC (nb d c)) () 1 := by
  have hd := d.2
  unfold oweB
  rw [show 5 - d.val = (4 - d.val) + 1 by omega, Finset.sum_range_succ, ← add_assoc]
  congr 4
  exact Fin.ext (by show (4 - (4 - d.val)) % 5 = _; omega)

/-- A device's own semaphores may be waited for in the order: staging and sending, barrier, receiving by copy. -/
def L (g : GSem nD τ sig) : Finset Unit := if g.1.2 = .tc then {()} else ∅
def lvS (s : SemLoc sig) : ℕ :=
  match s with
  | .reg _ => 1
  | .dma q => if q.val < 34 then 0 else 2 + (4 * (rOf q).val + (jOf q).val)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (j : Fin 4) (r : Fin 8) (u : Unit) : lv (rC c j r) u = 2 + (4 * r.val + j.val) := by
  show (if _ then _ else 2 + (4 * (rOf (rS j r)).val + (jOf (rS j r)).val)) = _
  rw [if_neg (rS_nlt j r), jOf_rS, rOf_rS]

/-- What is owed is owed to a TensorCore's semaphore, at the level of a copy not yet issued. -/
theorem tally_pos {g h : GSem nD τ sig} {n : ℕ} {u : Unit} (hp : 0 < (tallyAt h () n : CellTallies nD τ sig Unit) g u) : g = h := by
  rw [tallyAt_apply] at hp
  by_contra hn
  rw [if_neg fun h' => hn h'.1] at hp
  exact Nat.lt_irrefl 0 hp

theorem sum_pos' {f : ℕ → CellTallies nD τ sig Unit} {g : GSem nD τ sig} {u : Unit} :
    ∀ {n : ℕ}, 0 < (∑ i ∈ Finset.range n, f i) g u → ∃ i, i < n ∧ 0 < f i g u := by
  intro n
  induction n with
  | zero => intro h; exact absurd h (Nat.lt_irrefl 0)
  | succ n ih =>
    intro h
    rw [Finset.sum_range_succ, Pi.add_apply, Finsupp.add_apply] at h
    by_cases h0 : 0 < f n g u
    · exact ⟨n, Nat.lt_succ_self n, h0⟩
    · obtain ⟨i, hi, hp⟩ := ih (by omega)
      exact ⟨i, by omega, hp⟩

theorem owe_pos {c : Dev nD} {m : ℕ} {g : GSem nD τ sig} {u : Unit} (h : 0 < owe c m g u) : () ∈ L g ∧ 2 + m ≤ lv g u := by
  unfold owe at h
  obtain ⟨i, hi, hp⟩ := sum_pos' h
  obtain rfl := tally_pos hp
  refine ⟨by rw [L_tc]; exact Finset.mem_singleton_self _, ?_⟩
  rw [lv_r]
  show 2 + m ≤ 2 + (4 * ((31 - i) / 4 % 8) + (31 - i) % 4)
  omega

theorem oweB_pos {c : Dev nD} {k : ℕ} {g : GSem nD τ sig} {u : Unit} (h : 0 < oweB c k g u) : () ∈ L g ∧ 1 ≤ lv g u := by
  unfold oweB at h
  rw [Pi.add_apply, Finsupp.add_apply] at h
  by_cases h0 : 0 < owe c 0 g u
  · have := owe_pos h0; exact ⟨this.1, by omega⟩
  · obtain ⟨i, -, hp⟩ := sum_pos' (show 0 < (∑ i ∈ Finset.range k, tallyAt (barC (nb (Fin.ofNat 5 (4 - i)) c)) () 1 : CellTallies nD τ sig Unit) g u by omega)
    obtain rfl := tally_pos hp
    exact ⟨by rw [L_tc]; exact Finset.mem_singleton_self _, Nat.le_refl 1⟩

theorem mayWait_of (c : Dev nD) (s : SemLoc sig) (O : CellTallies nD τ sig Unit)
    (h : ∀ g u, 0 < O g u → () ∈ L g ∧ lvS s < lv g u) : (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => (h g u hg).1) (fun p hp => by rw [Finset.mem_singleton.mp hp]; exact Nat.le_refl _) (fun g u hg => (h g u hg).2)

theorem mayWait_bar (c : Dev nD) : (levAts L lv : sProp 𝕄) ⊢ MayWait (c : Thread nD τ) (.reg barS) () (owe c 0) :=
  mayWait_of c _ _ fun g u hg => ⟨(owe_pos hg).1, by have := (owe_pos hg).2; show 1 < _; omega⟩
theorem mayWait_r (c : Dev nD) (j : Fin 4) (r : Fin 8) (m : ℕ) (hm : 4 * r.val + j.val < m) :
    (levAts L lv : sProp 𝕄) ⊢ MayWait (c : Thread nD τ) (.dma (rS j r)) () (owe c m) :=
  mayWait_of c _ _ fun g u hg => ⟨(owe_pos hg).1, by
    have h1 := (owe_pos hg).2
    have h2 := lv_r c j r u
    have h3 : lvS (.dma (rS j r)) = 2 + (4 * r.val + j.val) := h2
    omega⟩
theorem mayWait_stage (c : Dev nD) (q : DmaSem sig) (hq : q.val < 2) (O : CellTallies nD τ sig Unit) (hO : O = oweB c 5 ∨ O = 0) :
    (levAts L lv : sProp 𝕄) ⊢ MayWait (c : Thread nD τ) (.dma q) () O := by
  rcases hO with rfl | rfl
  · exact mayWait_of c _ _ fun g u hg => ⟨(oweB_pos hg).1, by
      have := (oweB_pos hg).2
      have h3 : lvS (.dma q) = 0 := if_pos (by omega)
      omega⟩
  · rw [MayWait_zero]; iintro -; iempintro

end Cert.KernelIdeal.AR

end
-- ==== Proof.Comm.lean ====
/- The steps that signal, send and wait, each as a rule for the program it starts. -/
module

public import proofs.«01_k».proof.Proof.Sched

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16) (K : Dev nD × Ci → ℕ)

/-- What every device may use at any time: all the semaphores' records, that they are in their first round, and the
    levels. -/
def Recs : sProp 𝕄 :=
  iprop((bigSep Finset.univ fun ck : Dev nD × Ci => cellInv ER (Rd X) (K ck) (kcell ck))
    ∗ (bigSep Finset.univ fun ck : Dev nD × Ci => reached ER (kcell ck) 0) ∗ levAts L lv)

instance Recs_persistent : BI.Persistent (Recs X K) := by unfold Recs; infer_instance

theorem inv_at (ck : Dev nD × Ci) : (Recs X K : sProp 𝕄) ⊢ cellInv ER (Rd X) (K ck) (kcell ck) := by
  unfold Recs
  iintro ⟨H, -⟩
  iapply (show (bigSep Finset.univ fun ck : Dev nD × Ci => (cellInv ER (Rd X) (K ck) (kcell ck) : sProp 𝕄)) ⊢ _ from
    bigSep_elim (Finset.mem_univ ck)); iexact H
theorem reached_at (ck : Dev nD × Ci) : (Recs X K : sProp 𝕄) ⊢ reached ER (kcell ck) 0 := by
  unfold Recs
  iintro ⟨-, H, -⟩
  iapply (show (bigSep Finset.univ fun ck : Dev nD × Ci => (reached ER (kcell ck) 0 : sProp 𝕄)) ⊢ _ from
    bigSep_elim (Finset.mem_univ ck)); iexact H
theorem lev_at : (Recs X K : sProp 𝕄) ⊢ levAts L lv := by
  unfold Recs
  iintro ⟨-, -, H⟩; iexact H

/-- The run of a program of device `c`'s kernel core. -/
abbrev WP (c : Dev nD) (p : TProg F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

/-- Device `c` owes what the copies from the `m`-th on will pay. -/
def Ow (c : Dev nD) (m : ℕ) : sProp 𝕄 := iprop(∃ W, owes (c : Thread nD τ) (owe c m) W)

/-- What a copy needs besides the rows it reads: the right to pay its two semaphores, the rows it writes, and the place
    in its sending semaphore. -/
def Iss (c : Dev nD) (j : Fin 4) (r : Fin 8) : sProp 𝕄 :=
  iprop(dutyTok ER (sC c j r) 0 (0 : Fin 5) ∗ dutyTok ER (rC (pr j r c) j r) 0 (0 : Fin 5) ∗ LZ j r (pr j r c) ∗ atPos ER (sC c j r) 0 ∅ 0)
/-- What the wait for its having left needs. -/
def Fly (c : Dev nD) (j : Fin 4) (r : Fin 8) : sProp 𝕄 := iprop(atPos ER (sC c j r) 0 ∅ 0 ∗ cred (tallyAt (sC c j r) () (amt r)))
/-- What the wait for a partner's copy needs. -/
def Rcv (c : Dev nD) (j : Fin 4) (r : Fin 8) : sProp 𝕄 := iprop(atPos ER (rC c j r) 0 ∅ 0 ∗ cred (tallyAt (rC c j r) () (amt r)))

variable {c : Dev nD} {j : Fin 4} {r : Fin 8} {k : TProg F} {Q : PUnit → sProp (MT nD τ sig Unit (Elt F) ℕ UU ℕ)}

/-- A copy to the device `n`, which is the partner. -/
theorem wp_copy (n : Dev nD) (hn : n = pr j r c)
    {hsc : (dstV c j r : Memref sig (Dev.tc n : Thread nD τ).2.kind .vmem (Sq (wd r)) .bf16).view.ref.isScScratch = false}
    {hsrc : (srcV c j r).view.WordExact} {hdst : (dstV c j r).view.WordExact}
    {hsem : DmaTarget.Typed .vmem (.dma (rS j r)) (.remote (Dev.tc n : Thread nD τ) (dstV c j r) (.dma (sS j r)) hsc)} :
    iprop(Recs X K ∗ Iss c j r ∗ Own (srcV c j r) c Finset.univ (shr r) (sval X j r c) ∗ Ow c (4 * r.val + j.val))
      ⊢ iprop(((Fly c j r ∗ Ow c (4 * r.val + j.val + 1)) -∗ WP c k Q)
          -∗ WP c (.op (.enqueueDma (srcV c j r) (.remote (Dev.tc n : Thread nD τ) (dstV c j r) (.dma (sS j r)) hsc) (.dma (rS j r)) hsrc hdst hsem)
              fun _ => k) Q) := by
  subst hn
  unfold Iss Ow LZ OwnE
  rw [pr_pr]
  iintro ⟨#HR, ⟨Ht1, Ht2, ⟨%vd, Hd⟩, Hat⟩, Hs, ⟨%W, Ho⟩⟩ Hk
  unfold Own
  icases Hd with ⟨%fd, %hfd, Hd⟩
  icases Hs with ⟨%fs, %hfs, Hs⟩
  rw [View.setOn_univ, View.setOn_univ]
  iapply (Rounds.wp_send_pointsTo 𝒱₀ ER (Rd X) (c : Thread nD τ) none (κ₁ := K (c, some (false, j, r))) (κ₂ := K (pr j r c, some (true, j, r)))
    (r₁ := 0) (r₂ := 0) (d₁ := 0) (d₂ := 0) (fd := fd)
    (by rw [duties_s]; exact Finset.mem_singleton_self _) (by rw [duties_r]; exact Finset.mem_singleton_self _)
    () () (amt r) (by exact dst_credit c j r) (amount_s X c j r 0) (amount_r X (pr j r c) j r 0) (owe c (4 * r.val + j.val + 1)) (owe_step c j r) (W := W)
    (by
      rw [payload_s]; unfold sendPay Own; rw [View.setOn_univ]
      iintro H; iexists fs
      isplitr; · ipureintro; exact hfs
      iexact H)
    (by
      rw [payload_r]; unfold recvPay Own; rw [pr_pr, View.setOn_univ]
      iintro H; iexists _
      isplitr
      rotate_left
      · iexact H
      · ipureintro
        intro x hx
        exact (congrFun (View.read_write_univ (v := (dstV c j r).view) fd _) x).trans (hfs x hx))) $$ [Hs Hd Ho Ht1 Ht2]
  · isplitr; · iapply (inv_at X K (c, some (false, j, r))); iexact HR
    isplitr; · iapply (inv_at X K (pr j r c, some (true, j, r))); iexact HR
    isplitl [Hs]; · iexact Hs
    isplitl [Hd]; · iexact Hd
    isplitl [Ho]; · iexact Ho
    isplitl [Ht1]; · iexact Ht1
    isplitr; · iapply (reached_at X K (c, some (false, j, r))); iexact HR
    isplitl [Ht2]; · iexact Ht2
    iapply (reached_at X K (pr j r c, some (true, j, r))); iexact HR
  iintro ⟨Hc, Ho⟩
  iapply Hk
  unfold Fly
  isplitl [Hat Hc]
  · isplitl [Hat]; · iexact Hat
    iexact Hc
  · iexists W; iexact Ho

/-- Issuing a copy. -/
theorem wp_issue :
    iprop(Recs X K ∗ Iss c j r ∗ Own (srcV c j r) c Finset.univ (shr r) (sval X j r c) ∗ Ow c (4 * r.val + j.val))
      ⊢ iprop(((Fly c j r ∗ Ow c (4 * r.val + j.val + 1)) -∗ WP c k Q) -∗ WP c (issue c j r k) Q) :=
  wp_copy X K (dv c j r) (dv_eq c j r)

/-- Waiting for the partner's copy, while the copies from the `m`-th on, all later ones, are owed. -/
theorem wp_recv (m : ℕ) (hm : 4 * r.val + j.val < m) :
    iprop(Recs X K ∗ Rcv c j r ∗ Ow c m)
      ⊢ iprop(((semVal (rC c j r) 0 ∗ recvPay X c j r ∗ Ow c m) -∗ WP c k Q) -∗ WP c (recv c j r k) Q) := by
  unfold Rcv Ow recv
  iintro ⟨#HR, ⟨Hat, Hc⟩, ⟨%W, Ho⟩⟩ Hk
  iapply (Rounds.wp_wait_rest_token 𝒱₀ ER (Rd X) (c : Thread nD τ) none (κ := K (c, some (true, j, r)))
      (wpE_waitDma2_eq 𝒱₀ (c : Thread nD τ) none Set.univ) (Set.mem_univ _) () (O := owe c m) (W := W) (R := 0) (m := 0) (T := ∅)
      (by rw [Nat.zero_add, expect_r, dst_credit])) $$ [Hc Ho Hat]
  · isplitr; · iapply (inv_at X K (c, some (true, j, r))); iexact HR
    isplitl [Hc]; · rw [dst_credit]; iexact Hc
    isplitl [Ho]; · iexact Ho
    isplitr; · iapply (mayWait_r c j r m hm); iapply (lev_at X K); iexact HR
    iexact Hat
  iintro ⟨Ho, Hat, -, Hpay⟩
  ihave Hp := (Entails.of_eq (rest_r X c j r)) $$ Hpay
  imod (Rounds.cell_close ER (Rd X) (Set.mem_univ (K (c, some (true, j, r)))) (fun h => h) (R := 0 + 1) (duties_later X (rC c j r))) $$ [Hat] with Hz
  · isplitr; · iapply (inv_at X K (c, some (true, j, r))); iexact HR
    iexact Hat
  iapply Hk
  isplitl [Hz]; · iexact Hz
  isplitl [Hp]; · iexact Hp
  iexists _; iexact Ho

/-- Waiting for one's own copy to have left, when nothing is owed any more. -/
theorem wp_sent :
    iprop(Recs X K ∗ Fly c j r ∗ Ow c 32)
      ⊢ iprop(((semVal (sC c j r) 0 ∗ sendPay X c j r ∗ Ow c 32) -∗ WP c k Q) -∗ WP c (sent c j r k) Q) := by
  unfold Fly Ow sent
  rw [owe_32]
  iintro ⟨#HR, ⟨Hat, Hc⟩, ⟨%W, Ho⟩⟩ Hk
  iapply (Rounds.wp_wait_rest_token 𝒱₀ ER (Rd X) (c : Thread nD τ) none (κ := K (c, some (false, j, r)))
      (wpE_waitDma2_eq 𝒱₀ (c : Thread nD τ) none Set.univ) (Set.mem_univ _) () (O := 0) (W := W) (R := 0) (m := 0) (T := ∅)
      (by rw [Nat.zero_add, expect_s, src_credit])) $$ [Hc Ho Hat]
  · isplitr; · iapply (inv_at X K (c, some (false, j, r))); iexact HR
    isplitl [Hc]; · rw [src_credit]; iexact Hc
    isplitl [Ho]; · iexact Ho
    isplitr; · rw [MayWait_zero]; iempintro
    iexact Hat
  iintro ⟨Ho, Hat, -, Hpay⟩
  ihave Hp := (Entails.of_eq (rest_s X c j r)) $$ Hpay
  imod (Rounds.cell_close ER (Rd X) (Set.mem_univ (K (c, some (false, j, r)))) (fun h => h) (R := 0 + 1) (duties_later X (sC c j r))) $$ [Hat] with Hz
  · isplitr; · iapply (inv_at X K (c, some (false, j, r))); iexact HR
    iexact Hat
  iapply Hk
  isplitl [Hz]; · iexact Hz
  isplitl [Hp]; · iexact Hp
  iexists _; iexact Ho

/-- A signal to the device `n`, which is the one in direction `d`. -/
theorem wp_signal (n : Dev nD) (d : Fin 5) (hn : n = nb d c) :
    iprop(Recs X K ∗ dutyTok ER (barC (nb d c)) 0 d ∗ (Rd X).payload (barC (nb d c)) 0 d ∗ (∃ W, owes (c : Thread nD τ) (oweB c (5 - d.val)) W))
      ⊢ iprop(((∃ W, owes (c : Thread nD τ) (oweB c (4 - d.val)) W) -∗ WP c k Q)
          -∗ WP c (.op (.semSignal (n, .tc) barS (BitVec.toInt 1#32)) fun _ => k) Q) := by
  subst hn
  iintro ⟨#HR, Ht, Hp, ⟨%W, Ho⟩⟩ Hk
  iapply (Rounds.wp_signal 𝒱₀ ER (Rd X) (c : Thread nD τ) none (dst := (nb d c : Thread nD τ)) (κ := K (nb d c, none))
      (d := d) (by rw [duties_bar]; exact Finset.mem_univ _) ((amount_bar X (nb d c) d).trans (by decide)) () (oweB c (4 - d.val)) (oweB_step c d))
    $$ [Ho Ht Hp]
  · isplitr; · iapply (inv_at X K (nb d c, none)); iexact HR
    isplitl [Ho]; · iexact Ho
    isplitl [Ht]; · iexact Ht
    isplitl [Hp]; · iexact Hp
    iapply (reached_at X K (nb d c, none)); iexact HR
  iintro Ho
  iapply Hk
  iexists W; iexact Ho

/-- Signalling the barrier of the device in direction `d`. -/
theorem wp_sig1 (d : Fin 5) :
    iprop(Recs X K ∗ dutyTok ER (barC (nb d c)) 0 d ∗ (Rd X).payload (barC (nb d c)) 0 d ∗ (∃ W, owes (c : Thread nD τ) (oweB c (5 - d.val)) W))
      ⊢ iprop(((∃ W, owes (c : Thread nD τ) (oweB c (4 - d.val)) W) -∗ WP c k Q) -∗ WP c (sig1 c d k) Q) :=
  wp_signal X K (pdv c d) d (pdv_eq c d)

/-- The wait for all five partners: each hands over the rows the device will write there. -/
theorem wp_bar :
    iprop(Recs X K ∗ atPos ER (barC c) 0 ∅ 0 ∗ cred (tallyAt (barC c) () 5) ∗ (∃ W, owes (c : Thread nD τ) (oweB c 0) W))
      ⊢ iprop(((semVal (barC c) 0 ∗ (bigSep Finset.univ fun x : Fin 4 × Fin 8 => LZ x.1 x.2 (pr x.1 x.2 c)) ∗ Ow c 0) -∗ WP c k Q)
          -∗ WP c (bar k) Q) := by
  unfold Ow bar
  rw [oweB_0]
  iintro ⟨#HR, Hat, Hc, ⟨%W, Ho⟩⟩ Hk
  iapply (Rounds.wp_wait_rest_token 𝒱₀ ER (Rd X) (c : Thread nD τ) none (κ := K (c, none))
      (wpE_semWait_eq 𝒱₀ (c : Thread nD τ) none Set.univ) (Set.mem_univ _) () (O := owe c 0) (W := W) (R := 0) (m := 0) (T := ∅)
      (by rw [expect_bar]; decide)) $$ [Hc Ho Hat]
  · isplitr; · iapply (inv_at X K (c, none)); iexact HR
    isplitl [Hc]; · iexact Hc
    isplitl [Ho]; · iexact Ho
    isplitr; · iapply (mayWait_bar c); iapply (lev_at X K); iexact HR
    iexact Hat
  iintro ⟨Ho, Hat, -, Hpay⟩
  ihave Hp := (Entails.of_eq (rest_bar X c)) $$ Hpay
  imod (Rounds.cell_close ER (Rd X) (Set.mem_univ (K (c, none))) (fun h => h) (R := 0 + 1) (duties_later X (barC c))) $$ [Hat] with Hz
  · isplitr; · iapply (inv_at X K (c, none)); iexact HR
    iexact Hat
  iapply Hk
  isplitl [Hz]; · iexact Hz
  isplitl [Hp]; · iexact Hp
  iexists _; iexact Ho

/-- One step for each of the four chains, from one for any of them. -/
theorem wp_all4 {R : sProp (MT nD τ sig Unit (Elt F) ℕ UU ℕ)} [BI.Persistent R] {P P' : Fin 4 → sProp (MT nD τ sig Unit (Elt F) ℕ UU ℕ)}
    {E : ℕ → sProp (MT nD τ sig Unit (Elt F) ℕ UU ℕ)} {f : Fin 4 → TProg F → TProg F}
    (h : ∀ (j : Fin 4) (k : TProg F), iprop(R ∗ P j ∗ E j.val) ⊢ iprop(((P' j ∗ E (j.val + 1)) -∗ WP c k Q) -∗ WP c (f j k) Q)) :
    iprop(R ∗ (bigSep Finset.univ P) ∗ E 0) ⊢ iprop((((bigSep Finset.univ P') ∗ E 4) -∗ WP c k Q) -∗ WP c (all4 f k) Q) := by
  have e (Φ : Fin 4 → sProp 𝕄) : bigSep Finset.univ Φ = iprop(Φ 0 ∗ Φ 1 ∗ Φ 2 ∗ Φ 3) :=
    bigSep_univ_eq_bigSepL [0, 1, 2, 3] (by decide) (by decide) Φ
  have h' (j : Fin 4) (n n' : ℕ) (hn : j.val = n) (hn' : j.val + 1 = n') (k : TProg F) :
      iprop(R ∗ P j ∗ E n) ⊢ iprop(((P' j ∗ E n') -∗ WP c k Q) -∗ WP c (f j k) Q) := by subst hn; subst hn'; exact h j k
  unfold all4
  rw [e P, e P']
  iintro ⟨#HR, ⟨H0, H1, H2, H3⟩, HE⟩ Hk
  iapply (h' 0 0 1 rfl rfl _) $$ [H0 HE]
  · isplitr; · iexact HR
    isplitl [H0]; · iexact H0
    iexact HE
  iintro ⟨H0, HE⟩
  iapply (h' 1 1 2 rfl rfl _) $$ [H1 HE]
  · isplitr; · iexact HR
    isplitl [H1]; · iexact H1
    iexact HE
  iintro ⟨H1, HE⟩
  iapply (h' 2 2 3 rfl rfl _) $$ [H2 HE]
  · isplitr; · iexact HR
    isplitl [H2]; · iexact H2
    iexact HE
  iintro ⟨H2, HE⟩
  iapply (h' 3 3 4 rfl rfl _) $$ [H3 HE]
  · isplitr; · iexact HR
    isplitl [H3]; · iexact H3
    iexact HE
  iintro ⟨H3, HE⟩
  iapply Hk
  isplitl [H0 H1 H2 H3]
  · isplitl [H0]; · iexact H0
    isplitl [H1]; · iexact H1
    isplitl [H2]; · iexact H2
    iexact H3
  iexact HE

end Cert.KernelIdeal.AR

end
-- ==== Proof.Data.lean ====
/- The steps that load and store, each as a rule for the program it starts. -/
module

public import proofs.«01_k».proof.Proof.Comm

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16)

/-- Chain `j`'s columns. -/
abbrev cols (j : Fin 4) : Finset S512x512.Idx := rowsA j 0 512

theorem rowsA_sub {j : Fin 4} {a w a' w' : ℕ} (h1 : a' ≤ a) (h2 : a + w ≤ a' + w') : rowsA j a w ⊆ rowsA j a' w' := fun i hi => by
  rw [mem_rowsA] at hi ⊢; omega
theorem rowsG_sub {a w a' w' : ℕ} (h1 : a' ≤ a) (h2 : a + w ≤ a' + w') : rowsG a w ⊆ rowsG a' w' := fun i hi => by
  rw [mem_rowsG] at hi ⊢; omega

/-- Chain `j`'s columns of the accumulator, with the sum of `n` rounds in the `w` rows from `a`. -/
def Acc (n : ℕ) (j : Fin 4) (c : Dev nD) (a w : ℕ) : sProp 𝕄 :=
  iprop(∃ v : S512x512.Idx → Elt F .f32, ⌜∀ i ∈ rowsA j a w, v i = A X j n c i⌝ ∗ Own aM c (cols j) fullShare v)

/-- The argument. -/
def Arg (c : Dev nD) : sProp 𝕄 := Own xM c Finset.univ fullShare (X c)

/-- Chain `j`'s gathered rows, `w` of them from row `a`. -/
abbrev Gat (j : Fin 4) (c : Dev nD) (a w : ℕ) (q : PosShare TreeShare) : sProp 𝕄 := Own (gM j) c (rowsG a w) q (gV X j c)

/-- A piece of the outgoing or incoming buffer. -/
abbrev stP (j : Fin 4) (w z : ℕ) (hz : ∀ a, (![z, 0] : Fin 2 → ℕ) a + (Sq w).size a ≤ S576x128.size a) : Memref sig .tc .vmem (Sq w) .bf16 :=
  (stM j).slice (zR w z hz) (fun _ => rfl)
abbrev rcP (j : Fin 4) (w z : ℕ) (hz : ∀ a, (![z, 0] : Fin 2 → ℕ) a + (Sq w).size a ≤ S576x128.size a) : Memref sig .tc .vmem (Sq w) .bf16 :=
  (rcM j).slice (zR w z hz) (fun _ => rfl)
abbrev gP (j : Fin 4) (w : ℕ) (g : Fin 2 → ℕ) (hg : ∀ b, g b + (Sq w).size b ≤ S512x128.size b) : Memref sig .tc .vmem (Sq w) .bf16 :=
  (gM j).slice (gR w g hg) (fun _ => rfl)

variable {c : Dev nD} {j : Fin 4} {k : TProg F} {Q : PUnit → sProp (MT nD τ sig Unit (Elt F) ℕ UU ℕ)}

/-- Gathered rows as the whole of a slice, and back. -/
theorem gat_slice {w a : ℕ} {g : Fin 2 → ℕ} {hg : ∀ b, g b + (Sq w).size b ≤ S512x128.size b} (h : g = ![a, 0]) {q : PosShare TreeShare}
    {v : S512x128.Idx → Elt F .bf16} :
    (Own (gM j) c (rowsG a w) q v : sProp 𝕄) ⊢ Own (gP j w g hg) c Finset.univ q (fun x => v (atG a x)) := by
  rw [← gR_set h hg]
  refine (own_slice (gR w g hg) (fun _ => rfl)).trans (Entails.of_eq ?_)
  congr 1
  funext x
  exact congrArg v (gR_emb h hg x)
theorem gat_unslice {w a : ℕ} {g : Fin 2 → ℕ} {hg : ∀ b, g b + (Sq w).size b ≤ S512x128.size b} (h : g = ![a, 0]) {q : PosShare TreeShare}
    {v : S512x128.Idx → Elt F .bf16} :
    (Own (gP j w g hg) c Finset.univ q (fun x => v (atG a x)) : sProp 𝕄) ⊢ Own (gM j) c (rowsG a w) q v := by
  rw [← gR_set h hg]
  refine (Entails.of_eq ?_).trans (own_unslice (gR w g hg) (fun _ => rfl))
  congr 1
  funext x
  exact (congrArg v (gR_emb h hg x)).symm

section
variable {w : ℕ} {hw : 0 < (Sq w).numel} {o : Fin 2 → ℕ} {ho : ∀ b, o b + (Sq w).size b ≤ S512x512.size b} {a z : ℕ}
  {hz : ∀ b, (![z, 0] : Fin 2 → ℕ) b + (Sq w).size b ≤ S576x128.size b} (h : o = ![a, 128 * j.val])

include h

/-- Argument rows put in the outgoing buffer. -/
theorem wp_stageX {hE : ((stM j).access (zR w z hz)).StoreExact Finset.univ} :
    iprop(Arg X c ∗ OwnE (stP j w z hz) c Finset.univ)
      ⊢ iprop(((Arg X c ∗ Own (stP j w z hz) c Finset.univ fullShare (fun x => X c (atA j a x))) -∗ WP c k Q)
          -∗ WP c (stageX j hw ho hz hE k) Q) := by
  unfold Arg OwnE stageX
  iintro ⟨Hx, ⟨%v, Hs⟩⟩ Hk
  iapply (own_load (Finset.subset_univ _)) $$ Hx
  iintro Hx
  iapply own_load_slice $$ Hs
  iintro Hs
  iapply own_store_slice $$ Hs
  iintro Hs
  iapply Hk
  isplitl [Hx]; · iexact Hx
  iapply (own_congr (fun x _ => ?_))
  rotate_left
  · iexact Hs
  · rw [payX_eq]; exact congrArg (X c) (aR_emb h ho x)

/-- Accumulator rows put in the outgoing buffer. -/
theorem wp_stageA {hE : ((stM j).access (zR w z hz)).StoreExact Finset.univ} {n a' w' : ℕ} (h1 : a' ≤ a) (h2 : a + w ≤ a' + w') (h3 : a + w ≤ 512) :
    iprop(Acc X n j c a' w' ∗ OwnE (stP j w z hz) c Finset.univ)
      ⊢ iprop(((Acc X n j c a' w' ∗ Own (stP j w z hz) c Finset.univ fullShare (fun x => trunc1 (A X j n c (atA j a x)))) -∗ WP c k Q)
          -∗ WP c (stageA j hw ho hz hE k) Q) := by
  have hs := aR_set h ho
  unfold Acc OwnE stageA
  iintro ⟨⟨%u, %hu, Ha⟩, ⟨%v, Hs⟩⟩ Hk
  iapply (own_load (by rw [hs]; exact rowsA_sub (Nat.zero_le _) (by omega))) $$ Ha
  iintro Ha
  iapply own_load_slice $$ Hs
  iintro Hs
  iapply own_store_slice $$ Hs
  iintro Hs
  iapply Hk
  isplitl [Ha]
  · iexists u; isplitr; · (ipureintro; exact hu)
    iexact Ha
  iapply (own_congr (fun x _ => ?_))
  rotate_left
  · iexact Hs
  · rw [payT_eq, ← aR_emb h ho x]
    exact congrArg trunc1 (hu _ (rowsA_sub h1 h2 (by rw [← hs]; exact emb_mem (aR w o ho) x)))

/-- A store of the next sum on some rows of the accumulator. -/
theorem acc_next {n : ℕ} {v' : S512x512.Idx → Elt F .f32} {b : (Sq w).Idx → Elt F .bf16} {u : (Sq w).Idx → Elt F .f32}
    (hb : ∀ x, b x = T X j n (pr j (Fin.ofNat 8 n) c) (atA j a x)) (hv : ∀ x, u x = A X j n c ((aR w o ho).emb x))
    (hv' : ∀ x, v' ((aR w o ho).emb x) = add1 (u x) (ext1 (b x))) :
    ∀ i ∈ rowsA j a w, v' i = A X j (n + 1) c i := by
  intro i hi
  rw [← aR_set h ho, ← Rect.map_emb_univ] at hi
  obtain ⟨x, -, rfl⟩ := Finset.mem_map.mp hi
  rw [hv' x, hv x, hb x, A_succ, aR_emb h ho x]

/-- The first sum: argument rows and received rows. -/
theorem wp_sumX (h3 : a + w ≤ 512) {b : (Sq w).Idx → Elt F .bf16} (hb : ∀ x, b x = T X j 0 (pr j 0 c) (atA j a x)) :
    iprop(Arg X c ∗ Own (rcP j w z hz) c Finset.univ fullShare b ∗ OwnE aM c (cols j))
      ⊢ iprop(((Arg X c ∗ OwnE (rcP j w z hz) c Finset.univ ∗ Acc X 1 j c a w) -∗ WP c k Q) -∗ WP c (sumX j hw ho hz k) Q) := by
  have hs := aR_set h ho
  have hsub : (aR w o ho).set ⊆ cols j := by rw [hs]; exact rowsA_sub (Nat.zero_le _) (by omega)
  unfold Arg OwnE sumX
  iintro ⟨Hx, Hr, ⟨%v, Ha⟩⟩ Hk
  iapply (own_load (Finset.subset_univ _)) $$ Hx
  iintro Hx
  iapply own_load_slice $$ Hr
  iintro Hr
  iapply (own_load hsub) $$ Ha
  iintro Ha
  iapply (own_store hsub) $$ Ha
  iintro %v' %hv Ha
  iapply Hk
  isplitl [Hx]; · iexact Hx
  isplitl [Hr]; · iexists b; iexact Hr
  unfold Acc
  iexists v'
  isplitr
  · ipureintro
    refine acc_next X h (n := 0) (ho := ho) hb (fun x => rfl) (fun x => ?_)
    rw [hv.1 x, payA0_eq]; rfl
  · iexact Ha

/-- The later sums: accumulator rows and received rows. -/
theorem wp_sumA {n a' w' : ℕ} (h1 : a' ≤ a) (h2 : a + w ≤ a' + w') (h3 : a + w ≤ 512)
    {b : (Sq w).Idx → Elt F .bf16} (hb : ∀ x, b x = T X j n (pr j (Fin.ofNat 8 n) c) (atA j a x)) :
    iprop(Acc X n j c a' w' ∗ Own (rcP j w z hz) c Finset.univ fullShare b)
      ⊢ iprop(((OwnE (rcP j w z hz) c Finset.univ ∗ Acc X (n + 1) j c a w) -∗ WP c k Q) -∗ WP c (sumA j hw ho hz k) Q) := by
  have hs := aR_set h ho
  have hsub : (aR w o ho).set ⊆ cols j := by rw [hs]; exact rowsA_sub (Nat.zero_le _) (by omega)
  unfold Acc OwnE sumA
  iintro ⟨⟨%u, %hu, Ha⟩, Hr⟩ Hk
  iapply (own_load hsub) $$ Ha
  iintro Ha
  iapply own_load_slice $$ Hr
  iintro Hr
  iapply (own_load hsub) $$ Ha
  iintro Ha
  iapply (own_store hsub) $$ Ha
  iintro %v' %hv Ha
  iapply Hk
  isplitl [Hr]; · iexists b; iexact Hr
  iexists v'
  isplitr
  · ipureintro
    refine acc_next X h (n := n) (ho := ho) hb (u := fun x => u ((aR w o ho).emb x))
      (fun x => hu _ (rowsA_sub h1 h2 (by rw [← hs]; exact emb_mem (aR w o ho) x))) (fun x => ?_)
    rw [hv.1 x, payA_eq]
  · iexact Ha

/-- The last sum, put among the gathered rows too. -/
theorem wp_sumG {g : Fin 2 → ℕ} {hg : ∀ b, g b + (Sq w).size b ≤ S512x128.size b} {hE : ((gM j).access (gR w g hg)).StoreExact Finset.univ}
    (hgo : g = ![a, 0]) {a' w' : ℕ} (h1 : a' ≤ a) (h2 : a + w ≤ a' + w') (h3 : a + w ≤ 512)
    (hG : ∀ x : (Sq w).Idx, gV X j c (atG a x) = T X j 5 c (atA j a x))
    {b : (Sq w).Idx → Elt F .bf16} (hb : ∀ x, b x = T X j 4 (pr j 4 c) (atA j a x)) :
    iprop(Acc X 4 j c a' w' ∗ Own (rcP j w z hz) c Finset.univ fullShare b ∗ OwnE (gM j) c (rowsG a w))
      ⊢ iprop(((OwnE (rcP j w z hz) c Finset.univ ∗ OwnE aM c (cols j) ∗ Gat X j c a w fullShare) -∗ WP c k Q)
          -∗ WP c (sumG j hw ho hz hg hE k) Q) := by
  have hs := aR_set h ho
  have hsub : (aR w o ho).set ⊆ cols j := by rw [hs]; exact rowsA_sub (Nat.zero_le _) (by omega)
  have hgs := gR_set hgo hg
  unfold Acc OwnE sumG
  iintro ⟨⟨%u, %hu, Ha⟩, Hr, ⟨%v, Hg⟩⟩ Hk
  iapply (own_load hsub) $$ Ha
  iintro Ha
  iapply own_load_slice $$ Hr
  iintro Hr
  iapply (own_load hsub) $$ Ha
  iintro Ha
  iapply (own_store hsub) $$ Ha
  iintro %v' %hv Ha
  iapply (own_load (hgs.subset)) $$ Hg
  iintro Hg
  iapply (own_store (hgs.subset)) $$ Hg
  iintro %v2 %hv2 Hg
  iapply Hk
  isplitl [Hr]; · iexists b; iexact Hr
  isplitl [Ha]; · iexists v'; iexact Ha
  iapply (own_congr (v := v2) (fun i hi => ?_))
  rotate_left
  · iexact Hg
  · rw [← hgs, ← Rect.map_emb_univ] at hi
    obtain ⟨x, -, rfl⟩ := Finset.mem_map.mp hi
    rw [hv2.1 x, payG_eq, gR_emb hgo hg x, hG x, ← aR_emb h ho x]
    have hux := hu _ (rowsA_sub h1 h2 (by rw [← hs]; exact emb_mem (aR w o ho) x))
    show trunc1 (add1 (u ((aR w o ho).emb x)) (ext1 (b x))) = trunc1 (A X j (4 + 1) c ((aR w o ho).emb x))
    rw [hux, hb x, A_succ, aR_emb h ho x]; rfl

/-- Gathered rows widened into the result. -/
theorem wp_outG {g : Fin 2 → ℕ} {hg : ∀ b, g b + (Sq w).size b ≤ S512x128.size b} (hgo : g = ![a, 0]) (h3 : a + w ≤ 512)
    {q : PosShare TreeShare} {v : S512x512.Idx → Elt F .f32} :
    iprop(Gat X j c a w q ∗ Own oM c (cols j) fullShare v)
      ⊢ iprop((∀ v', ⌜(∀ i ∈ rowsA j a w, v' i = O X j c i) ∧ ∀ i ∈ cols j, i ∉ rowsA j a w → v' i = v i⌝ -∗ Gat X j c a w q
            -∗ Own oM c (cols j) fullShare v' -∗ WP c k Q) -∗ WP c (outG j hw hg ho k) Q) := by
  have hs := aR_set h ho
  have hsub : (aR w o ho).set ⊆ cols j := by rw [hs]; exact rowsA_sub (Nat.zero_le _) (by omega)
  have hgs := gR_set hgo hg
  unfold outG
  iintro ⟨Hg, Ho⟩ Hk
  iapply (own_load (hgs.subset)) $$ Hg
  iintro Hg
  iapply (own_load hsub) $$ Ho
  iintro Ho
  iapply (own_store hsub) $$ Ho
  iintro %v' %hv Ho
  iapply Hk $$ %v' [] [Hg] [Ho]
  · ipureintro
    refine ⟨fun i hi => ?_, fun i hi hn => hv.2 i hi (by rw [hs]; exact hn)⟩
    rw [← hs, ← Rect.map_emb_univ] at hi
    obtain ⟨x, -, rfl⟩ := Finset.mem_map.mp hi
    rw [hv.1 x, payO_eq, aR_emb h ho x, ← O_gV]
    exact congrArg (fun y => ext1 (gV X j c y)) (gR_emb hgo hg x)
  · iexact Hg
  · iexact Ho

end

end Cert.KernelIdeal.AR

end
-- ==== Proof.Rounds.lean ====
/- The rounds of one chain, each as a rule: what it takes, what it gives. -/
module

public import proofs.«01_k».proof.Proof.Data

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16) (K : Dev nD × Ci → ℕ)

/-- The rows a copy reads, whatever they hold. -/
def Src (c : Dev nD) (j : Fin 4) (r : Fin 8) : sProp 𝕄 := OwnE (srcV c j r) c Finset.univ

section Gather
variable {X} {c : Dev nD} {j : Fin 4} {q : PosShare TreeShare}

/-- Two neighbouring runs of gathered rows are one. -/
theorem gat_join {a a' b w u : ℕ} (h : a' + a = 2 * b + w) (hc : a = b ∨ a = b + w) (hu : u = 2 * w) :
    iprop(Gat X j c a w q ∗ Gat X j c a' w q) ⊢ (Gat X j c b u q : sProp 𝕄) := by
  refine own_join (fun i => ?_) ?_
  · rw [mem_rowsG, mem_rowsG, mem_rowsG]; omega
  · rw [Finset.disjoint_left]; intro i h1 h2; rw [mem_rowsG] at h1 h2; omega

theorem gat_halve {a w : ℕ} : (Gat X j c a w q : sProp 𝕄) ⊢ iprop(Gat X j c a w q.left ∗ Gat X j c a w q.right) :=
  own_share (PosShare.mem_left_op_right q)
theorem gat_whole {a w : ℕ} : iprop(Gat X j c a w q.left ∗ Gat X j c a w q.right) ⊢ (Gat X j c a w q : sProp 𝕄) :=
  own_unshare (PosShare.mem_left_op_right q)

theorem join5 : iprop(Gat X j c (row3 j c) 64 q ∗ Gat X j c (row3 j (pr j 5 c)) 64 q) ⊢ (Gat X j c (row2 j c) 128 q : sProp 𝕄) :=
  gat_join (row2_pr5 j c) (row3_cases j c) rfl
theorem join6 : iprop(Gat X j c (row2 j c) 128 q ∗ Gat X j c (row2 j (pr j 6 c)) 128 q) ⊢ (Gat X j c (row1 j c) 256 q : sProp 𝕄) :=
  gat_join (row1_pr6 j c) (row2_cases j c) rfl
theorem join7 : iprop(Gat X j c (row1 j c) 256 q ∗ Gat X j c (row1 j (pr j 7 c)) 256 q) ⊢ (Gat X j c 0 512 q : sProp 𝕄) :=
  gat_join (b := 0) (by have := row0_pr7 j c; omega) (by have := row1_cases j c; omega) rfl

/-- What arrives in the gathering rounds is gathered rows; -/
theorem recv5 : (recvPay X c j 5 : sProp 𝕄) ⊢ Gat X j c (row3 j (pr j 5 c)) 64 fullShare :=
  (gat_unslice (v := gV X j (pr j 5 c)) (gH3_eq j (pr j 5 c))).trans (Entails.of_eq (by rw [gV_pr X j 5 (by decide)]))
theorem recv6 : (recvPay X c j 6 : sProp 𝕄) ⊢ Gat X j c (row2 j (pr j 6 c)) 128 fullShare :=
  (gat_unslice (v := gV X j (pr j 6 c)) (gH2_eq j (pr j 6 c))).trans (Entails.of_eq (by rw [gV_pr X j 6 (by decide)]))
theorem recv7 : (recvPay X c j 7 : sProp 𝕄) ⊢ Gat X j c (row1 j (pr j 7 c)) 256 fullShare :=
  (gat_unslice (v := gV X j (pr j 7 c)) (gH1_eq j (pr j 7 c))).trans (Entails.of_eq (by rw [gV_pr X j 7 (by decide)]))
/-- what is sent in them is gathered rows, and comes back. -/
theorem send5 : (Gat X j c (row3 j c) 64 q : sProp 𝕄) ⊢ Own (srcV c j 5) c Finset.univ q (sval X j 5 c) := gat_slice (gH3_eq j c)
theorem send6 : (Gat X j c (row2 j c) 128 q : sProp 𝕄) ⊢ Own (srcV c j 6) c Finset.univ q (sval X j 6 c) := gat_slice (gH2_eq j c)
theorem send7 : (Gat X j c (row1 j c) 256 q : sProp 𝕄) ⊢ Own (srcV c j 7) c Finset.univ q (sval X j 7 c) := gat_slice (gH1_eq j c)
theorem back5 : (sendPay X c j 5 : sProp 𝕄) ⊢ Gat X j c (row3 j c) 64 fullShare.left := gat_unslice (v := gV X j c) (gH3_eq j c)
theorem back6 : (sendPay X c j 6 : sProp 𝕄) ⊢ Gat X j c (row2 j c) 128 fullShare.right.left := gat_unslice (v := gV X j c) (gH2_eq j c)
theorem back7 : (sendPay X c j 7 : sProp 𝕄) ⊢ Gat X j c (row1 j c) 256 fullShare.right.right := gat_unslice (v := gV X j c) (gH1_eq j c)

end Gather

variable {c : Dev nD} {j : Fin 4} {k : TProg F} {Q : PUnit → sProp (MT nD τ sig Unit (Elt F) ℕ UU ℕ)}

/-- The values received in the summing rounds are those for the rows kept. -/
theorem kept (r : Fin 8) (hr : r < 5) (n : ℕ) {w : ℕ} (x : (Sq w).Idx) :
    T X j n (pr j r c) (atA j (sendRow j r (pr j r c)) x) = T X j n (pr j r c) (atA j (keepRow j r c) x) := by
  rw [sendRow_pr j r c hr]

theorem recv0 : (recvPay X c j 0 : sProp 𝕄) ⊢ Own (rcP j 256 0 z0) c Finset.univ fullShare (sval X j 0 (pr j 0 c)) := Entails.refl _
theorem land0 : (OwnE (rcP j 256 0 z0) c Finset.univ : sProp 𝕄) ⊢ LZ j 0 c := Entails.refl _
theorem recv4 : (recvPay X c j 4 : sProp 𝕄) ⊢ Own (rcP j 64 512 z4) c Finset.univ fullShare (sval X j 4 (pr j 4 c)) := Entails.refl _
theorem land4 : (OwnE (rcP j 64 512 z4) c Finset.univ : sProp 𝕄) ⊢ LZ j 4 c := Entails.refl _

/-- Before the barrier: the first rows put in the outgoing buffer. -/
theorem wp_fill (E : sProp 𝕄) :
    iprop(Recs X K ∗ Src c j 0 ∗ (Arg X c ∗ E))
      ⊢ iprop(((Own (srcV c j 0) c Finset.univ fullShare (sval X j 0 c) ∗ (Arg X c ∗ E)) -∗ WP c k Q) -∗ WP c (fill c j k) Q) := by
  iintro ⟨-, Hs, Hx, HE⟩ Hk
  iapply (wp_stageX X (oS0_eq j c) (hz := z0)) $$ [Hs Hx]
  · isplitl [Hx]; · iexact Hx
    unfold Src; iexact Hs
  iintro ⟨Hx, Hs⟩
  iapply Hk
  isplitl [Hs]; · iexact Hs
  isplitl [Hx]; · iexact Hx
  iexact HE

/-- After the barrier: the first copy. -/
theorem wp_first :
    iprop(Recs X K ∗ (Own (srcV c j 0) c Finset.univ fullShare (sval X j 0 c) ∗ Iss c j 0) ∗ (Arg X c ∗ Ow c (0 + j.val)))
      ⊢ iprop(((Fly c j 0 ∗ (Arg X c ∗ Ow c (0 + (j.val + 1)))) -∗ WP c k Q) -∗ WP c (issue c j 0 k) Q) := by
  iintro ⟨#HR, ⟨Hs, Hi⟩, Hx, Ho⟩ Hk
  iapply (wp_issue X K (r := 0)) $$ [Hs Hi Ho]
  · isplitr; · iexact HR
    isplitl [Hi]; · iexact Hi
    isplitl [Hs]; · iexact Hs
    iexact Ho
  iintro ⟨Hf, Ho⟩
  iapply Hk
  isplitl [Hf]; · iexact Hf
  isplitl [Hx]; · iexact Hx
  iexact Ho

/-- Round 0: the first sum, and the second copy. -/
theorem wp_rnd0 :
    iprop(Recs X K ∗ (Rcv c j 0 ∗ OwnE aM c (cols j) ∗ Src c j 1 ∗ Iss c j 1) ∗ (Arg X c ∗ Ow c (4 + j.val)))
      ⊢ iprop((((semVal (rC c j 0) 0 ∗ LZ j 0 c ∗ Acc X 1 j c (row1 j c) 256 ∗ Fly c j 1) ∗ (Arg X c ∗ Ow c (4 + (j.val + 1)))) -∗ WP c k Q)
          -∗ WP c (rnd0 c j k) Q) := by
  have h1 := row1_le j c
  have hb1 := bit_le j c 1
  iintro ⟨#HR, ⟨Hr, Ha, Hs, Hi⟩, Hx, Ho⟩ Hk
  iapply (wp_recv X K (4 + j.val) (by show 4 * 0 + j.val < _; omega)) $$ [Hr Ho]
  · isplitr; · iexact HR
    isplitl [Hr]; · iexact Hr
    iexact Ho
  iintro ⟨Hz, Hp, Ho⟩
  ihave Hp := (recv0 X) $$ Hp
  iapply (wp_sumX X (oK0_eq j c) (hz := z0) (by omega) (b := sval X j 0 (pr j 0 c)) (fun x => kept X 0 (by decide) 0 x)) $$ [Hx Hp Ha]
  · isplitl [Hx]; · iexact Hx
    isplitl [Hp]; · iexact Hp
    iexact Ha
  iintro ⟨Hx, Hl, Ha⟩
  ihave Hl := land0 $$ Hl
  iapply (wp_stageA X (oS1_eq j c) (hz := z1) (n := 1) (a' := row1 j c) (w' := 256) (by omega) (by omega) (by omega)) $$ [Ha Hs]
  · isplitl [Ha]; · iexact Ha
    unfold Src; iexact Hs
  iintro ⟨Ha, Hs⟩
  iapply (wp_issue X K (r := 1)) $$ [Hs Hi Ho]
  · isplitr; · iexact HR
    isplitl [Hi]; · iexact Hi
    isplitl [Hs]; · iexact Hs
    iexact Ho
  iintro ⟨Hf, Ho⟩
  iapply Hk
  isplitr [Hx Ho]
  · isplitl [Hz]; · iexact Hz
    isplitl [Hl]; · iexact Hl
    isplitl [Ha]; · iexact Ha
    iexact Hf
  isplitl [Hx]; · iexact Hx
  iexact Ho

/-- A later summing round: the next sum, and the next copy. -/
theorem wp_mid {r r' : Fin 8} {n w w' z z' a a' b u : ℕ} {hw : 0 < (Sq w).numel} {hw' : 0 < (Sq w').numel}
    {o o' : Fin 2 → ℕ} (ho : ∀ b, o b + (Sq w).size b ≤ S512x512.size b) (ho' : ∀ b, o' b + (Sq w').size b ≤ S512x512.size b)
    {hz : ∀ b, (![z, 0] : Fin 2 → ℕ) b + (Sq w).size b ≤ S576x128.size b}
    {hz' : ∀ b, (![z', 0] : Fin 2 → ℕ) b + (Sq w').size b ≤ S576x128.size b}
    {hE' : ((stM j).access (zR w' z' hz')).StoreExact Finset.univ}
    (h : o = ![a, 128 * j.val]) (h' : o' = ![a', 128 * j.val])
    (hr : r'.val = r.val + 1) (hrn : Fin.ofNat 8 n = r)
    (h1 : b ≤ a) (h2 : a + w ≤ b + u) (h3 : a ≤ a') (h4 : a' + w' ≤ a + w) (h5 : a + w ≤ 512)
    (hrecv : (recvPay X c j r : sProp 𝕄) ⊢ Own (rcP j w z hz) c Finset.univ fullShare (fun x => T X j n (pr j r c) (atA j a x)))
    (hland : (OwnE (rcP j w z hz) c Finset.univ : sProp 𝕄) ⊢ LZ j r c)
    (hsrc : (Src c j r' : sProp 𝕄) ⊢ OwnE (stP j w' z' hz') c Finset.univ)
    (hsend : (Own (stP j w' z' hz') c Finset.univ fullShare (fun x => trunc1 (A X j (n + 1) c (atA j a' x))) : sProp 𝕄)
      ⊢ Own (srcV c j r') c Finset.univ (shr r') (sval X j r' c)) :
    iprop(Recs X K ∗ (Rcv c j r ∗ Acc X n j c b u ∗ Src c j r' ∗ Iss c j r') ∗ Ow c (4 * r'.val + j.val))
      ⊢ iprop((((semVal (rC c j r) 0 ∗ LZ j r c ∗ Acc X (n + 1) j c a w ∗ Fly c j r') ∗ Ow c (4 * r'.val + (j.val + 1))) -∗ WP c k Q)
          -∗ WP c (recv c j r <| sumA j hw ho hz <| stageA j hw' ho' hz' hE' <| issue c j r' k) Q) := by
  iintro ⟨#HR, ⟨Hr, Ha, Hs, Hi⟩, Ho⟩ Hk
  iapply (wp_recv X K (4 * r'.val + j.val) (by omega)) $$ [Hr Ho]
  · isplitr; · iexact HR
    isplitl [Hr]; · iexact Hr
    iexact Ho
  iintro ⟨Hz, Hp, Ho⟩
  ihave Hp := hrecv $$ Hp
  iapply (wp_sumA X h (hz := hz) h1 h2 h5 (n := n) (b := fun x => T X j n (pr j r c) (atA j a x)) (fun x => by rw [hrn])) $$ [Hp Ha]
  · isplitl [Ha]; · iexact Ha
    iexact Hp
  iintro ⟨Hl, Ha⟩
  ihave Hl := hland $$ Hl
  ihave Hs := hsrc $$ Hs
  iapply (wp_stageA X h' (hz := hz') h3 h4 (by omega)) $$ [Ha Hs]
  · isplitl [Ha]; · iexact Ha
    iexact Hs
  iintro ⟨Ha, Hs⟩
  ihave Hs := hsend $$ Hs
  iapply (wp_issue X K (r := r')) $$ [Hs Hi Ho]
  · isplitr; · iexact HR
    isplitl [Hi]; · iexact Hi
    isplitl [Hs]; · iexact Hs
    iexact Ho
  iintro ⟨Hf, Ho⟩
  iapply Hk
  isplitr [Ho]
  · isplitl [Hz]; · iexact Hz
    isplitl [Hl]; · iexact Hl
    isplitl [Ha]; · iexact Ha
    iexact Hf
  iexact Ho

theorem wp_rnd1 :
    iprop(Recs X K ∗ (Rcv c j 1 ∗ Acc X 1 j c (row1 j c) 256 ∗ Src c j 2 ∗ Iss c j 2) ∗ Ow c (8 + j.val))
      ⊢ iprop((((semVal (rC c j 1) 0 ∗ LZ j 1 c ∗ Acc X 2 j c (row2 j c) 128 ∗ Fly c j 2) ∗ Ow c (8 + (j.val + 1))) -∗ WP c k Q)
          -∗ WP c (rnd1 c j k) Q) := by
  have h1 := row1_le j c; have h2 := row2_le j c; have hb := bit_le j c 2
  have h2' : row1 j c ≤ row2 j c := by unfold row2; omega
  exact wp_mid X K (r := 1) (r' := 2) (oK1_inb j c) (oS2_inb j c) (oK1_eq j c) (oS2_eq j c) rfl rfl (by omega) (by omega) (by omega) (by omega) (by omega)
    (own_congr fun x _ => kept X 1 (by decide) 1 x) (Entails.refl _) (Entails.refl _) (Entails.refl _)

theorem wp_rnd2 :
    iprop(Recs X K ∗ (Rcv c j 2 ∗ Acc X 2 j c (row2 j c) 128 ∗ Src c j 3 ∗ Iss c j 3) ∗ Ow c (12 + j.val))
      ⊢ iprop((((semVal (rC c j 2) 0 ∗ LZ j 2 c ∗ Acc X 3 j c (row3 j c) 64 ∗ Fly c j 3) ∗ Ow c (12 + (j.val + 1))) -∗ WP c k Q)
          -∗ WP c (rnd2 c j k) Q) := by
  have h1 := row1_le j c; have h2 := row2_le j c; have h3 := row3_le j c
  have h3' : row2 j c ≤ row3 j c := by unfold row3; omega
  exact wp_mid X K (r := 2) (r' := 3) (oH_inb j c) (oH_inb j c) (oH_eq j c) (oH_eq j c) rfl rfl (by omega) (by omega) (by omega) (by omega) (by omega)
    (own_congr fun x _ => kept X 2 (by decide) 2 x) (Entails.refl _) (Entails.refl _) (Entails.refl _)

theorem wp_rnd3 :
    iprop(Recs X K ∗ (Rcv c j 3 ∗ Acc X 3 j c (row3 j c) 64 ∗ Src c j 4 ∗ Iss c j 4) ∗ Ow c (16 + j.val))
      ⊢ iprop((((semVal (rC c j 3) 0 ∗ LZ j 3 c ∗ Acc X 4 j c (row3 j c) 64 ∗ Fly c j 4) ∗ Ow c (16 + (j.val + 1))) -∗ WP c k Q)
          -∗ WP c (rnd3 c j k) Q) := by
  have h1 := row1_le j c; have h2 := row2_le j c; have h3 := row3_le j c
  exact wp_mid X K (r := 3) (r' := 4) (oH_inb j c) (oH_inb j c) (oH_eq j c) (oH_eq j c) rfl rfl (by omega) (by omega) (by omega) (by omega) (by omega)
    (own_congr fun x _ => kept X 3 (by decide) 3 x) (Entails.refl _) (Entails.refl _) (Entails.refl _)

/-- Round 4: the last sum, and the first copy of gathered rows. -/
theorem wp_rnd4 :
    iprop(Recs X K ∗ (Rcv c j 4 ∗ Acc X 4 j c (row3 j c) 64 ∗ OwnE (gM j) c (rowsG (row3 j c) 64) ∗ Iss c j 5) ∗ Ow c (20 + j.val))
      ⊢ iprop((((semVal (rC c j 4) 0 ∗ LZ j 4 c ∗ OwnE aM c (cols j) ∗ Gat X j c (row3 j c) 64 fullShare.right ∗ Fly c j 5)
            ∗ Ow c (20 + (j.val + 1))) -∗ WP c k Q) -∗ WP c (rnd4 c j k) Q) := by
  have h1 := row1_le j c; have h2 := row2_le j c; have h3 := row3_le j c
  iintro ⟨#HR, ⟨Hr, Ha, Hg, Hi⟩, Ho⟩ Hk
  iapply (wp_recv X K (20 + j.val) (by show 4 * 4 + j.val < _; omega)) $$ [Hr Ho]
  · isplitr; · iexact HR
    isplitl [Hr]; · iexact Hr
    iexact Ho
  iintro ⟨Hz, Hp, Ho⟩
  ihave Hp := (recv4 X) $$ Hp
  iapply (wp_sumG X (oH_eq j c) (hz := z4) (gS3_eq j c) (a' := row3 j c) (w' := 64) (by omega) (by omega) (by omega) (gV_own X j c) (b := sval X j 4 (pr j 4 c))
    (fun x => kept X 4 (by decide) 4 x)) $$ [Ha Hp Hg]
  · isplitl [Ha]; · iexact Ha
    isplitl [Hp]; · iexact Hp
    iexact Hg
  iintro ⟨Hl, Ha, Hg⟩
  ihave Hl := land4 $$ Hl
  ihave Hg := gat_halve $$ Hg
  icases Hg with ⟨Hgl, Hg⟩
  ihave Hgl := send5 $$ Hgl
  iapply (wp_issue X K (r := 5)) $$ [Hgl Hi Ho]
  · isplitr; · iexact HR
    isplitl [Hi]; · iexact Hi
    isplitl [Hgl]; · iexact Hgl
    iexact Ho
  iintro ⟨Hf, Ho⟩
  iapply Hk
  isplitr [Ho]
  · isplitl [Hz]; · iexact Hz
    isplitl [Hl]; · iexact Hl
    isplitl [Ha]; · iexact Ha
    isplitl [Hg]; · iexact Hg
    iexact Hf
  iexact Ho

/-- Round 5: 64 more gathered rows, and the copy of 128. -/
theorem wp_rnd5 :
    iprop(Recs X K ∗ (Rcv c j 5 ∗ Gat X j c (row3 j c) 64 fullShare.right ∗ Iss c j 6) ∗ Ow c (24 + j.val))
      ⊢ iprop((((semVal (rC c j 5) 0 ∗ Gat X j c (row3 j (pr j 5 c)) 64 fullShare.left ∗ Gat X j c (row2 j c) 128 fullShare.right.right ∗ Fly c j 6)
            ∗ Ow c (24 + (j.val + 1))) -∗ WP c k Q) -∗ WP c (rnd5 c j k) Q) := by
  iintro ⟨#HR, ⟨Hr, Hg, Hi⟩, Ho⟩ Hk
  iapply (wp_recv X K (24 + j.val) (by show 4 * 5 + j.val < _; omega)) $$ [Hr Ho]
  · isplitr; · iexact HR
    isplitl [Hr]; · iexact Hr
    iexact Ho
  iintro ⟨Hz, Hp, Ho⟩
  ihave Hp := recv5 $$ Hp
  ihave Hp := gat_halve $$ Hp
  icases Hp with ⟨Hpl, Hp⟩
  ihave Hg := join5 $$ [Hg Hp]
  · isplitl [Hg]; · iexact Hg
    iexact Hp
  ihave Hg := gat_halve $$ Hg
  icases Hg with ⟨Hgl, Hg⟩
  ihave Hgl := send6 $$ Hgl
  iapply (wp_issue X K (r := 6)) $$ [Hgl Hi Ho]
  · isplitr; · iexact HR
    isplitl [Hi]; · iexact Hi
    isplitl [Hgl]; · iexact Hgl
    iexact Ho
  iintro ⟨Hf, Ho⟩
  iapply Hk
  isplitr [Ho]
  · isplitl [Hz]; · iexact Hz
    isplitl [Hpl]; · iexact Hpl
    isplitl [Hg]; · iexact Hg
    iexact Hf
  iexact Ho

/-- Chain `j`'s columns of the result, right in the `w` rows from `a`. -/
def Res (j : Fin 4) (c : Dev nD) (a w : ℕ) : sProp 𝕄 :=
  iprop(∃ v : S512x512.Idx → Elt F .f32, ⌜∀ i ∈ rowsA j a w, v i = O X j c i⌝ ∗ Own oM c (cols j) fullShare v)

/-- Round 6: 128 more gathered rows, half of the result, and the copy of 256. -/
theorem wp_rnd6 :
    iprop(Recs X K ∗ (Rcv c j 6 ∗ Gat X j c (row2 j c) 128 fullShare.right.right ∗ OwnE oM c (cols j) ∗ Iss c j 7) ∗ Ow c (28 + j.val))
      ⊢ iprop((((semVal (rC c j 6) 0 ∗ Gat X j c (row2 j (pr j 6 c)) 128 fullShare.left ∗ Gat X j c (row2 j (pr j 6 c)) 128 fullShare.right.left
            ∗ Res X j c (row1 j c) 256 ∗ Fly c j 7) ∗ Ow c (28 + (j.val + 1))) -∗ WP c k Q) -∗ WP c (rnd6 c j k) Q) := by
  have h1 := row1_le j c
  iintro ⟨#HR, ⟨Hr, Hg, Hout, Hi⟩, Ho⟩ Hk
  iapply (wp_recv X K (28 + j.val) (by show 4 * 6 + j.val < _; omega)) $$ [Hr Ho]
  · isplitr; · iexact HR
    isplitl [Hr]; · iexact Hr
    iexact Ho
  iintro ⟨Hz, Hp, Ho⟩
  ihave Hp := recv6 $$ Hp
  ihave Hp := gat_halve $$ Hp
  icases Hp with ⟨Hpl, Hp⟩
  ihave Hp := gat_halve $$ Hp
  icases Hp with ⟨Hprl, Hp⟩
  ihave Hg := join6 $$ [Hg Hp]
  · isplitl [Hg]; · iexact Hg
    iexact Hp
  unfold OwnE
  icases Hout with ⟨%v, Hout⟩
  iapply (wp_outG X (oK0_eq j c) (gL1_eq j c) (by omega)) $$ [Hg Hout]
  · isplitl [Hg]; · iexact Hg
    iexact Hout
  iintro %v' %hv Hg Hout
  ihave Hg := send7 $$ Hg
  iapply (wp_issue X K (r := 7)) $$ [Hg Hi Ho]
  · isplitr; · iexact HR
    isplitl [Hi]; · iexact Hi
    isplitl [Hg]; · iexact Hg
    iexact Ho
  iintro ⟨Hf, Ho⟩
  iapply Hk
  isplitr [Ho]
  · isplitl [Hz]; · iexact Hz
    isplitl [Hpl]; · iexact Hpl
    isplitl [Hprl]; · iexact Hprl
    isplitl [Hout]
    · unfold Res; iexists v'
      isplitr; · (ipureintro; exact hv.1)
      iexact Hout
    iexact Hf
  iexact Ho

/-- Round 7: the other 256 gathered rows, and the other half of the result. -/
theorem wp_rnd7 :
    iprop(Recs X K ∗ (Rcv c j 7 ∗ Res X j c (row1 j c) 256) ∗ Ow c 32)
      ⊢ iprop((((semVal (rC c j 7) 0 ∗ Gat X j c (row1 j (pr j 7 c)) 256 fullShare ∗ Own oM c (cols j) fullShare (O X j c)) ∗ Ow c 32) -∗ WP c k Q)
          -∗ WP c (rnd7 c j k) Q) := by
  have h1 := row1_le j c; have h7 := row0_pr7 j c; have h8 := row1_cases j c; have hj := j.2
  iintro ⟨#HR, ⟨Hr, Hout⟩, Ho⟩ Hk
  iapply (wp_recv X K 32 (by show 4 * 7 + j.val < _; omega)) $$ [Hr Ho]
  · isplitr; · iexact HR
    isplitl [Hr]; · iexact Hr
    iexact Ho
  iintro ⟨Hz, Hp, Ho⟩
  ihave Hp := recv7 $$ Hp
  unfold Res
  icases Hout with ⟨%v, %hv, Hout⟩
  have e : row1 j (pr j 7 c) = 256 - row1 j c := by omega
  rw [e]
  iapply (wp_outG X (oL_eq j c) (gL0_eq j c) (by omega)) $$ [Hp Hout]
  · isplitl [Hp]; · iexact Hp
    iexact Hout
  iintro %v' %hv' Hp Hout
  iapply Hk
  isplitr [Ho]
  · isplitl [Hz]; · iexact Hz
    isplitl [Hp]; · iexact Hp
    iapply (own_congr (v := v') (fun i hi => ?_))
    rotate_left
    · iexact Hout
    · by_cases hm : i ∈ rowsA j (256 - row1 j c) 256
      · exact hv'.1 i hm
      · rw [hv'.2 i hi hm]
        refine hv i ?_
        rw [mem_rowsA] at hi hm ⊢
        omega
  iexact Ho

/-- The end: a copy has left, and what it read is there again. -/
theorem wp_end (r : Fin 8) :
    iprop(Recs X K ∗ Fly c j r ∗ Ow c 32)
      ⊢ iprop((((semVal (sC c j r) 0 ∗ sendPay X c j r) ∗ Ow c 32) -∗ WP c k Q) -∗ WP c (sent c j r k) Q) := by
  iintro ⟨#HR, Hf, Ho⟩ Hk
  iapply (wp_sent X K) $$ [Hf Ho]
  · isplitr; · iexact HR
    isplitl [Hf]; · iexact Hf
    iexact Ho
  iintro ⟨Hz, Hp, Ho⟩
  iapply Hk
  isplitr [Ho]
  · isplitl [Hz]; · iexact Hz
    iexact Hp
  iexact Ho

end Cert.KernelIdeal.AR

end
-- ==== Proof.Body.lean ====
/- The whole body of the kernel on one device: from its buffers, its rights to pay and its places in the semaphores, to the
   result, its buffers again and every semaphore at zero. -/
module

public import proofs.«01_k».proof.Proof.Rounds

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16) (K : Dev nD × Ci → ℕ)

/-- The same for every chain. -/
abbrev star (Φ : Fin 4 → sProp (MT nD τ sig Unit (Elt F) ℕ UU ℕ)) : sProp (MT nD τ sig Unit (Elt F) ℕ UU ℕ) := bigSep Finset.univ Φ

/-- For every chain and round, round by round. -/
theorem by_rounds (Φ : Fin 4 → Fin 8 → sProp 𝕄) :
    (bigSep Finset.univ fun x : Fin 4 × Fin 8 => Φ x.1 x.2)
      = iprop(star (fun j => Φ j 0) ∗ star (fun j => Φ j 1) ∗ star (fun j => Φ j 2) ∗ star (fun j => Φ j 3) ∗ star (fun j => Φ j 4)
        ∗ star (fun j => Φ j 5) ∗ star (fun j => Φ j 6) ∗ star (fun j => Φ j 7)) := by
  rw [bigSep_univ_prod, star_comm, bigSep_univ_eq_bigSepL [0, 1, 2, 3, 4, 5, 6, 7] (by decide) (by decide)]
  rfl

variable {c : Dev nD} {k : TProg F} {Q : PUnit → sProp (MT nD τ sig Unit (Elt F) ℕ UU ℕ)}

/-! ## Each step for all four chains -/

theorem all_fill (E : sProp 𝕄) :
    iprop(Recs X K ∗ star (fun j => Src c j 0) ∗ (Arg X c ∗ E))
      ⊢ iprop(((star (fun j => Own (srcV c j 0) c Finset.univ fullShare (sval X j 0 c)) ∗ (Arg X c ∗ E)) -∗ WP c k Q)
          -∗ WP c (all4 (fill c) k) Q) :=
  wp_all4 (E := fun _ => iprop(Arg X c ∗ E)) fun j k => wp_fill X K E

theorem all_first :
    iprop(Recs X K ∗ (star (fun j => Own (srcV c j 0) c Finset.univ fullShare (sval X j 0 c)) ∗ star (fun j => Iss c j 0)) ∗ (Arg X c ∗ Ow c 0))
      ⊢ iprop(((star (fun j => Fly c j 0) ∗ (Arg X c ∗ Ow c 4)) -∗ WP c k Q) -∗ WP c (all4 (fun j => issue c j 0) k) Q) := by
  have h := wp_all4 (c := c) (k := k) (Q := Q) (E := fun i => iprop(Arg X c ∗ Ow c (0 + i))) fun j k => wp_first X K (j := j) (k := k)
  simp only [bigSep_sep'] at h
  exact h

theorem all_rnd0 :
    iprop(Recs X K ∗ (star (fun j => Rcv c j 0) ∗ star (fun j => OwnE aM c (cols j)) ∗ star (fun j => Src c j 1) ∗ star (fun j => Iss c j 1))
        ∗ (Arg X c ∗ Ow c 4))
      ⊢ iprop((((star (fun j => semVal (rC c j 0) 0) ∗ star (fun j => LZ j 0 c) ∗ star (fun j => Acc X 1 j c (row1 j c) 256) ∗ star (fun j => Fly c j 1))
            ∗ (Arg X c ∗ Ow c 8)) -∗ WP c k Q) -∗ WP c (all4 (rnd0 c) k) Q) := by
  have h := wp_all4 (c := c) (k := k) (Q := Q) (E := fun i => iprop(Arg X c ∗ Ow c (4 + i))) fun j k => wp_rnd0 X K (j := j) (k := k)
  simp only [bigSep_sep'] at h
  exact h

theorem all_rnd1 :
    iprop(Recs X K ∗ (star (fun j => Rcv c j 1) ∗ star (fun j => Acc X 1 j c (row1 j c) 256) ∗ star (fun j => Src c j 2) ∗ star (fun j => Iss c j 2))
        ∗ Ow c 8)
      ⊢ iprop((((star (fun j => semVal (rC c j 1) 0) ∗ star (fun j => LZ j 1 c) ∗ star (fun j => Acc X 2 j c (row2 j c) 128) ∗ star (fun j => Fly c j 2))
            ∗ Ow c 12) -∗ WP c k Q) -∗ WP c (all4 (rnd1 c) k) Q) := by
  have h := wp_all4 (c := c) (k := k) (Q := Q) (E := fun i => Ow c (8 + i)) fun j k => wp_rnd1 X K (j := j) (k := k)
  simp only [bigSep_sep'] at h
  exact h

theorem all_rnd2 :
    iprop(Recs X K ∗ (star (fun j => Rcv c j 2) ∗ star (fun j => Acc X 2 j c (row2 j c) 128) ∗ star (fun j => Src c j 3) ∗ star (fun j => Iss c j 3))
        ∗ Ow c 12)
      ⊢ iprop((((star (fun j => semVal (rC c j 2) 0) ∗ star (fun j => LZ j 2 c) ∗ star (fun j => Acc X 3 j c (row3 j c) 64) ∗ star (fun j => Fly c j 3))
            ∗ Ow c 16) -∗ WP c k Q) -∗ WP c (all4 (rnd2 c) k) Q) := by
  have h := wp_all4 (c := c) (k := k) (Q := Q) (E := fun i => Ow c (12 + i)) fun j k => wp_rnd2 X K (j := j) (k := k)
  simp only [bigSep_sep'] at h
  exact h

theorem all_rnd3 :
    iprop(Recs X K ∗ (star (fun j => Rcv c j 3) ∗ star (fun j => Acc X 3 j c (row3 j c) 64) ∗ star (fun j => Src c j 4) ∗ star (fun j => Iss c j 4))
        ∗ Ow c 16)
      ⊢ iprop((((star (fun j => semVal (rC c j 3) 0) ∗ star (fun j => LZ j 3 c) ∗ star (fun j => Acc X 4 j c (row3 j c) 64) ∗ star (fun j => Fly c j 4))
            ∗ Ow c 20) -∗ WP c k Q) -∗ WP c (all4 (rnd3 c) k) Q) := by
  have h := wp_all4 (c := c) (k := k) (Q := Q) (E := fun i => Ow c (16 + i)) fun j k => wp_rnd3 X K (j := j) (k := k)
  simp only [bigSep_sep'] at h
  exact h

theorem all_rnd4 :
    iprop(Recs X K ∗ (star (fun j => Rcv c j 4) ∗ star (fun j => Acc X 4 j c (row3 j c) 64) ∗ star (fun j => OwnE (gM j) c (rowsG (row3 j c) 64))
        ∗ star (fun j => Iss c j 5)) ∗ Ow c 20)
      ⊢ iprop((((star (fun j => semVal (rC c j 4) 0) ∗ star (fun j => LZ j 4 c) ∗ star (fun j => OwnE aM c (cols j))
            ∗ star (fun j => Gat X j c (row3 j c) 64 fullShare.right) ∗ star (fun j => Fly c j 5))
            ∗ Ow c 24) -∗ WP c k Q) -∗ WP c (all4 (rnd4 c) k) Q) := by
  have h := wp_all4 (c := c) (k := k) (Q := Q) (E := fun i => Ow c (20 + i)) fun j k => wp_rnd4 X K (j := j) (k := k)
  simp only [bigSep_sep'] at h
  exact h

theorem all_rnd5 :
    iprop(Recs X K ∗ (star (fun j => Rcv c j 5) ∗ star (fun j => Gat X j c (row3 j c) 64 fullShare.right) ∗ star (fun j => Iss c j 6)) ∗ Ow c 24)
      ⊢ iprop((((star (fun j => semVal (rC c j 5) 0) ∗ star (fun j => Gat X j c (row3 j (pr j 5 c)) 64 fullShare.left)
            ∗ star (fun j => Gat X j c (row2 j c) 128 fullShare.right.right) ∗ star (fun j => Fly c j 6))
            ∗ Ow c 28) -∗ WP c k Q) -∗ WP c (all4 (rnd5 c) k) Q) := by
  have h := wp_all4 (c := c) (k := k) (Q := Q) (E := fun i => Ow c (24 + i)) fun j k => wp_rnd5 X K (j := j) (k := k)
  simp only [bigSep_sep'] at h
  exact h

theorem all_rnd6 :
    iprop(Recs X K ∗ (star (fun j => Rcv c j 6) ∗ star (fun j => Gat X j c (row2 j c) 128 fullShare.right.right) ∗ star (fun j => OwnE oM c (cols j))
        ∗ star (fun j => Iss c j 7)) ∗ Ow c 28)
      ⊢ iprop((((star (fun j => semVal (rC c j 6) 0) ∗ star (fun j => Gat X j c (row2 j (pr j 6 c)) 128 fullShare.left)
            ∗ star (fun j => Gat X j c (row2 j (pr j 6 c)) 128 fullShare.right.left) ∗ star (fun j => Res X j c (row1 j c) 256) ∗ star (fun j => Fly c j 7))
            ∗ Ow c 32) -∗ WP c k Q) -∗ WP c (all4 (rnd6 c) k) Q) := by
  have h := wp_all4 (c := c) (k := k) (Q := Q) (E := fun i => Ow c (28 + i)) fun j k => wp_rnd6 X K (j := j) (k := k)
  simp only [bigSep_sep'] at h
  exact h

theorem all_rnd7 :
    iprop(Recs X K ∗ (star (fun j => Rcv c j 7) ∗ star (fun j => Res X j c (row1 j c) 256)) ∗ Ow c 32)
      ⊢ iprop((((star (fun j => semVal (rC c j 7) 0) ∗ star (fun j => Gat X j c (row1 j (pr j 7 c)) 256 fullShare)
            ∗ star (fun j => Own oM c (cols j) fullShare (O X j c))) ∗ Ow c 32) -∗ WP c k Q) -∗ WP c (all4 (rnd7 c) k) Q) := by
  have h := wp_all4 (c := c) (k := k) (Q := Q) (E := fun i => Ow c 32) fun j k => wp_rnd7 X K (j := j) (k := k)
  simp only [bigSep_sep'] at h
  exact h

theorem all_end (r : Fin 8) :
    iprop(Recs X K ∗ star (fun j => Fly c j r) ∗ Ow c 32)
      ⊢ iprop((((star (fun j => semVal (sC c j r) 0) ∗ star (fun j => sendPay X c j r)) ∗ Ow c 32) -∗ WP c k Q)
          -∗ WP c (all4 (fun j => sent c j r) k) Q) := by
  have h := wp_all4 (c := c) (k := k) (Q := Q) (E := fun i => Ow c 32) fun j k => wp_end X K r (j := j) (k := k)
  simp only [bigSep_sep'] at h
  exact h

/-- The five signals. -/
theorem wp_sigs :
    iprop(Recs X K ∗ (bigSep Finset.univ fun d : Fin 5 => dutyTok ER (barC (nb d c)) 0 d) ∗ (bigSep Finset.univ fun x : Fin 4 × Fin 8 => LZ x.1 x.2 c)
        ∗ (∃ W, owes (c : Thread nD τ) (oweB c 5) W))
      ⊢ iprop(((∃ W, owes (c : Thread nD τ) (oweB c 0) W) -∗ WP c k Q)
          -∗ WP c (sig1 c 0 <| sig1 c 1 <| sig1 c 2 <| sig1 c 3 <| sig1 c 4 <| k) Q) := by
  have e (Φ : Fin 5 → sProp 𝕄) : bigSep Finset.univ Φ = iprop(Φ 0 ∗ Φ 1 ∗ Φ 2 ∗ Φ 3 ∗ Φ 4) :=
    bigSep_univ_eq_bigSepL [0, 1, 2, 3, 4] (by decide) (by decide) Φ
  have hs (d : Fin 5) (n n' : ℕ) (hn : 5 - d.val = n) (hn' : 4 - d.val = n') (k : TProg F) :
      iprop(Recs X K ∗ dutyTok ER (barC (nb d c)) 0 d ∗ (Rd X).payload (barC (nb d c)) 0 d ∗ (∃ W, owes (c : Thread nD τ) (oweB c n) W))
        ⊢ iprop(((∃ W, owes (c : Thread nD τ) (oweB c n') W) -∗ WP c k Q) -∗ WP c (sig1 c d k) Q) := by
    subst hn; subst hn'; exact wp_sig1 X K d
  rw [bar_deal X c, e, e]
  iintro ⟨#HR, ⟨H0, H1, H2, H3, H4⟩, ⟨P0, P1, P2, P3, P4⟩, Ho⟩ Hk
  iapply (hs 0 5 4 rfl rfl _) $$ [H0 P0 Ho]
  · isplitr; · iexact HR
    isplitl [H0]; · iexact H0
    isplitl [P0]; · iexact P0
    iexact Ho
  iintro Ho
  iapply (hs 1 4 3 rfl rfl _) $$ [H1 P1 Ho]
  · isplitr; · iexact HR
    isplitl [H1]; · iexact H1
    isplitl [P1]; · iexact P1
    iexact Ho
  iintro Ho
  iapply (hs 2 3 2 rfl rfl _) $$ [H2 P2 Ho]
  · isplitr; · iexact HR
    isplitl [H2]; · iexact H2
    isplitl [P2]; · iexact P2
    iexact Ho
  iintro Ho
  iapply (hs 3 2 1 rfl rfl _) $$ [H3 P3 Ho]
  · isplitr; · iexact HR
    isplitl [H3]; · iexact H3
    isplitl [P3]; · iexact P3
    iexact Ho
  iintro Ho
  iapply (hs 4 1 0 rfl rfl _) $$ [H4 P4 Ho]
  · isplitr; · iexact HR
    isplitl [H4]; · iexact H4
    isplitl [P4]; · iexact P4
    iexact Ho
  iintro Ho
  iapply Hk
  iexact Ho

/-- The shares of the gathered rows, all back, are the whole buffer. -/
theorem gat_end {j : Fin 4} :
    iprop(sendPay X c j 5 ∗ sendPay X c j 6 ∗ sendPay X c j 7
        ∗ Gat X j c (row3 j (pr j 5 c)) 64 fullShare.left ∗ Gat X j c (row2 j (pr j 6 c)) 128 fullShare.left
        ∗ Gat X j c (row2 j (pr j 6 c)) 128 fullShare.right.left ∗ Gat X j c (row1 j (pr j 7 c)) 256 fullShare)
      ⊢ (OwnE (gM j) c Finset.univ : sProp 𝕄) := by
  iintro ⟨B5, B6, B7, G5, G6, G6', G7⟩
  ihave B5 := back5 $$ B5
  ihave B6 := back6 $$ B6
  ihave B7 := back7 $$ B7
  ihave H := join5 $$ [B5 G5]
  · isplitl [B5]; · iexact B5
    iexact G5
  ihave H := join6 $$ [H G6]
  · isplitl [H]; · iexact H
    iexact G6
  ihave H' := join6 $$ [B6 G6']
  · isplitl [B6]; · iexact B6
    iexact G6'
  ihave H' := gat_whole $$ [H' B7]
  · isplitl [H']; · iexact H'
    iexact B7
  ihave H := gat_whole $$ [H H']
  · isplitl [H]; · iexact H
    iexact H'
  ihave H := join7 $$ [H G7]
  · isplitl [H]; · iexact H
    iexact G7
  have e : rowsG 0 512 = Finset.univ := by
    ext i; rw [mem_rowsG]
    have hi : (i 0).val < 512 := (i 0).isLt
    exact ⟨fun _ => Finset.mem_univ i, fun _ => ⟨Nat.zero_le _, by omega⟩⟩
  ihave H := (Entails.of_eq (by unfold Gat; rw [e])) $$ H
  iapply own_ownE; iexact H

/-! ## The body -/

/-- The rights and places of a device's copy of one chain and round. -/
def Tok (c : Dev nD) (j : Fin 4) (r : Fin 8) : sProp 𝕄 :=
  iprop((dutyTok ER (sC c j r) 0 (0 : Fin 5) ∗ dutyTok ER (rC (pr j r c) j r) 0 (0 : Fin 5) ∗ atPos ER (sC c j r) 0 ∅ 0) ∗ Rcv c j r)

/-- What a device has of the protocol at the start. -/
def Proto (c : Dev nD) : sProp 𝕄 :=
  iprop(atPos ER (barC c) 0 ∅ 0 ∗ cred (tallyAt (barC c) () 5) ∗ (bigSep Finset.univ fun d : Fin 5 => dutyTok ER (barC (nb d c)) 0 d)
    ∗ (bigSep Finset.univ fun x : Fin 4 × Fin 8 => Tok c x.1 x.2))
/-- All its semaphores at zero. -/
def Zero (c : Dev nD) : sProp 𝕄 :=
  iprop(semVal (barC c) 0 ∗ (bigSep Finset.univ fun x : Fin 4 × Fin 8 => semVal (sC c x.1 x.2) 0)
    ∗ (bigSep Finset.univ fun x : Fin 4 × Fin 8 => semVal (rC c x.1 x.2) 0))

/-- Its buffers at the start, in the parts the steps use. -/
def BufIn (c : Dev nD) : sProp 𝕄 :=
  iprop(star (fun j => OwnE aM c (cols j)) ∗ star (fun j => OwnE oM c (cols j))
    ∗ (star (fun j => Src c j 0) ∗ star (fun j => Src c j 1) ∗ star (fun j => Src c j 2) ∗ star (fun j => Src c j 3) ∗ star (fun j => Src c j 4))
    ∗ star (fun j => OwnE (gM j) c (rowsG (row3 j c) 64))
    ∗ (bigSep Finset.univ fun x : Fin 4 × Fin 8 => LZ x.1 x.2 c))
/-- And at the end, with the result. -/
def BufOut (c : Dev nD) : sProp 𝕄 :=
  iprop(star (fun j => OwnE aM c (cols j)) ∗ star (fun j => Own oM c (cols j) fullShare (O X j c))
    ∗ (star (fun j => sendPay X c j 0) ∗ star (fun j => sendPay X c j 1) ∗ star (fun j => sendPay X c j 2) ∗ star (fun j => sendPay X c j 3)
      ∗ star (fun j => sendPay X c j 4))
    ∗ star (fun j => OwnE (gM j) c Finset.univ)
    ∗ (star (fun j => LZ j 0 c) ∗ star (fun j => LZ j 1 c) ∗ star (fun j => LZ j 2 c) ∗ star (fun j => LZ j 3 c) ∗ star (fun j => LZ j 4 c)))

/-- The rights of one copy, with the rows to write, are what the copy and the wait for its partner's need. -/
theorem tok_iss1 (j : Fin 4) (r : Fin 8) :
    iprop(Tok c j r ∗ LZ j r (pr j r c)) ⊢ (iprop(Iss c j r ∗ Rcv c j r) : sProp 𝕄) := by
  unfold Tok Iss
  iintro ⟨⟨⟨H1, H2, H3⟩, H4⟩, H5⟩
  isplitr [H4]
  · isplitl [H1]; · iexact H1
    isplitl [H2]; · iexact H2
    isplitl [H5]; · iexact H5
    iexact H3
  · iexact H4

/-- The same for every chain and round. -/
theorem tok_iss : iprop((bigSep Finset.univ fun x : Fin 4 × Fin 8 => Tok c x.1 x.2) ∗ (bigSep Finset.univ fun x : Fin 4 × Fin 8 => LZ x.1 x.2 (pr x.1 x.2 c)))
    ⊢ (iprop((bigSep Finset.univ fun x : Fin 4 × Fin 8 => Iss c x.1 x.2) ∗ (bigSep Finset.univ fun x : Fin 4 × Fin 8 => Rcv c x.1 x.2)) : sProp 𝕄) := by
  rw [← bigSep_sep', ← bigSep_sep']
  exact bigSep_mono fun x _ => tok_iss1 x.1 x.2

set_option maxHeartbeats 1600000 in
/-- The body of the kernel, step by step. -/
theorem wp_rest :
    iprop(Recs X K ∗ Proto c ∗ BufIn c ∗ Arg X c ∗ (∃ W, owes (c : Thread nD τ) (oweB c 5) W))
      ⊢ iprop(((Zero c ∗ BufOut X c ∗ Arg X c ∗ Ow c 32) -∗ Q ⟨⟩) -∗ WP c (rest c) Q) := by
  unfold Proto BufIn rest
  iintro ⟨#HR, ⟨Hat, Hcr, Hdt, Htok⟩, ⟨Ha, Hout, ⟨S0, S1, S2, S3, S4⟩, Hg, Hlz⟩, Hx, Ho⟩ Hk
  iapply (all_fill X K iprop(emp)) $$ [S0 Hx]
  · isplitr; · iexact HR
    isplitl [S0]; · iexact S0
    isplitl [Hx]; · iexact Hx
    iempintro
  iintro ⟨S0, Hx, -⟩
  iapply (wp_sigs X K) $$ [Hdt Hlz Ho]
  · isplitr; · iexact HR
    isplitl [Hdt]; · iexact Hdt
    isplitl [Hlz]; · iexact Hlz
    iexact Ho
  iintro Ho
  iapply (wp_bar X K) $$ [Hat Hcr Ho]
  · isplitr; · iexact HR
    isplitl [Hat]; · iexact Hat
    isplitl [Hcr]; · iexact Hcr
    iexact Ho
  iintro ⟨HzB, Hlz, Ho⟩
  ihave H := tok_iss $$ [Htok Hlz]
  · isplitl [Htok]; · iexact Htok
    iexact Hlz
  icases H with ⟨Hi, Hr⟩
  ihave Hi := (Entails.of_eq (by_rounds fun j r => Iss c j r)) $$ Hi
  ihave Hr := (Entails.of_eq (by_rounds fun j r => Rcv c j r)) $$ Hr
  icases Hi with ⟨I0, I1, I2, I3, I4, I5, I6, I7⟩
  icases Hr with ⟨R0, R1, R2, R3, R4, R5, R6, R7⟩
  iapply (all_first X K) $$ [S0 I0 Hx Ho]
  · isplitr; · iexact HR
    isplitl [S0 I0]
    · isplitl [S0]; · iexact S0
      iexact I0
    isplitl [Hx]; · iexact Hx
    iexact Ho
  iintro ⟨F0, Hx, Ho⟩
  iapply (all_rnd0 X K) $$ [R0 Ha S1 I1 Hx Ho]
  · isplitr; · iexact HR
    isplitr [Hx Ho]
    · isplitl [R0]; · iexact R0
      isplitl [Ha]; · iexact Ha
      isplitl [S1]; · iexact S1
      iexact I1
    isplitl [Hx]; · iexact Hx
    iexact Ho
  iintro ⟨⟨V0, L0, Ha, F1⟩, Hx, Ho⟩
  iapply (all_rnd1 X K) $$ [R1 Ha S2 I2 Ho]
  · isplitr; · iexact HR
    isplitr [Ho]
    · isplitl [R1]; · iexact R1
      isplitl [Ha]; · iexact Ha
      isplitl [S2]; · iexact S2
      iexact I2
    iexact Ho
  iintro ⟨⟨V1, L1, Ha, F2⟩, Ho⟩
  iapply (all_rnd2 X K) $$ [R2 Ha S3 I3 Ho]
  · isplitr; · iexact HR
    isplitr [Ho]
    · isplitl [R2]; · iexact R2
      isplitl [Ha]; · iexact Ha
      isplitl [S3]; · iexact S3
      iexact I3
    iexact Ho
  iintro ⟨⟨V2, L2, Ha, F3⟩, Ho⟩
  iapply (all_rnd3 X K) $$ [R3 Ha S4 I4 Ho]
  · isplitr; · iexact HR
    isplitr [Ho]
    · isplitl [R3]; · iexact R3
      isplitl [Ha]; · iexact Ha
      isplitl [S4]; · iexact S4
      iexact I4
    iexact Ho
  iintro ⟨⟨V3, L3, Ha, F4⟩, Ho⟩
  iapply (all_rnd4 X K) $$ [R4 Ha Hg I5 Ho]
  · isplitr; · iexact HR
    isplitr [Ho]
    · isplitl [R4]; · iexact R4
      isplitl [Ha]; · iexact Ha
      isplitl [Hg]; · iexact Hg
      iexact I5
    iexact Ho
  iintro ⟨⟨V4, L4, Ha, Hg, F5⟩, Ho⟩
  iapply (all_rnd5 X K) $$ [R5 Hg I6 Ho]
  · isplitr; · iexact HR
    isplitr [Ho]
    · isplitl [R5]; · iexact R5
      isplitl [Hg]; · iexact Hg
      iexact I6
    iexact Ho
  iintro ⟨⟨V5, G5, Hg, F6⟩, Ho⟩
  iapply (all_rnd6 X K) $$ [R6 Hg Hout I7 Ho]
  · isplitr; · iexact HR
    isplitr [Ho]
    · isplitl [R6]; · iexact R6
      isplitl [Hg]; · iexact Hg
      isplitl [Hout]; · iexact Hout
      iexact I7
    iexact Ho
  iintro ⟨⟨V6, G6, G6', Hout, F7⟩, Ho⟩
  iapply (all_rnd7 X K) $$ [R7 Hout Ho]
  · isplitr; · iexact HR
    isplitr [Ho]
    · isplitl [R7]; · iexact R7
      iexact Hout
    iexact Ho
  iintro ⟨⟨V7, G7, Hout⟩, Ho⟩
  iapply (all_end X K 0) $$ [F0 Ho]
  · isplitr; · iexact HR
    isplitl [F0]; · iexact F0
    iexact Ho
  iintro ⟨⟨W0, B0⟩, Ho⟩
  iapply (all_end X K 1) $$ [F1 Ho]
  · isplitr; · iexact HR
    isplitl [F1]; · iexact F1
    iexact Ho
  iintro ⟨⟨W1, B1⟩, Ho⟩
  iapply (all_end X K 2) $$ [F2 Ho]
  · isplitr; · iexact HR
    isplitl [F2]; · iexact F2
    iexact Ho
  iintro ⟨⟨W2, B2⟩, Ho⟩
  iapply (all_end X K 3) $$ [F3 Ho]
  · isplitr; · iexact HR
    isplitl [F3]; · iexact F3
    iexact Ho
  iintro ⟨⟨W3, B3⟩, Ho⟩
  iapply (all_end X K 4) $$ [F4 Ho]
  · isplitr; · iexact HR
    isplitl [F4]; · iexact F4
    iexact Ho
  iintro ⟨⟨W4, B4⟩, Ho⟩
  iapply (all_end X K 5) $$ [F5 Ho]
  · isplitr; · iexact HR
    isplitl [F5]; · iexact F5
    iexact Ho
  iintro ⟨⟨W5, B5⟩, Ho⟩
  iapply (all_end X K 6) $$ [F6 Ho]
  · isplitr; · iexact HR
    isplitl [F6]; · iexact F6
    iexact Ho
  iintro ⟨⟨W6, B6⟩, Ho⟩
  iapply (all_end X K 7) $$ [F7 Ho]
  · isplitr; · iexact HR
    isplitl [F7]; · iexact F7
    iexact Ho
  iintro ⟨⟨W7, B7⟩, Ho⟩
  ihave Hg := (show iprop(star (fun j => sendPay X c j 5) ∗ star (fun j => sendPay X c j 6) ∗ star (fun j => sendPay X c j 7)
        ∗ star (fun j => Gat X j c (row3 j (pr j 5 c)) 64 fullShare.left) ∗ star (fun j => Gat X j c (row2 j (pr j 6 c)) 128 fullShare.left)
        ∗ star (fun j => Gat X j c (row2 j (pr j 6 c)) 128 fullShare.right.left) ∗ star (fun j => Gat X j c (row1 j (pr j 7 c)) 256 fullShare))
      ⊢ star (fun j => OwnE (gM j) c Finset.univ) from by
        simp only [star, ← bigSep_sep']
        exact bigSep_mono fun j _ => gat_end X) $$ [B5 B6 B7 G5 G6 G6' G7]
  · isplitl [B5]; · iexact B5
    isplitl [B6]; · iexact B6
    isplitl [B7]; · iexact B7
    isplitl [G5]; · iexact G5
    isplitl [G6]; · iexact G6
    isplitl [G6']; · iexact G6'
    iexact G7
  unfold WP; rw [wp_ret]; imodintro
  iapply Hk
  unfold Zero BufOut
  rw [by_rounds fun j r => semVal (sC c j r) 0, by_rounds fun j r => semVal (rC c j r) 0]
  isplitl [HzB V0 V1 V2 V3 V4 V5 V6 V7 W0 W1 W2 W3 W4 W5 W6 W7]
  · isplitl [HzB]; · iexact HzB
    isplitl [W0 W1 W2 W3 W4 W5 W6 W7]
    · isplitl [W0]; · iexact W0
      isplitl [W1]; · iexact W1
      isplitl [W2]; · iexact W2
      isplitl [W3]; · iexact W3
      isplitl [W4]; · iexact W4
      isplitl [W5]; · iexact W5
      isplitl [W6]; · iexact W6
      iexact W7
    · isplitl [V0]; · iexact V0
      isplitl [V1]; · iexact V1
      isplitl [V2]; · iexact V2
      isplitl [V3]; · iexact V3
      isplitl [V4]; · iexact V4
      isplitl [V5]; · iexact V5
      isplitl [V6]; · iexact V6
      iexact V7
  isplitr [Hx Ho]
  · isplitl [Ha]; · iexact Ha
    isplitl [Hout]; · iexact Hout
    isplitl [B0 B1 B2 B3 B4]
    · isplitl [B0]; · iexact B0
      isplitl [B1]; · iexact B1
      isplitl [B2]; · iexact B2
      isplitl [B3]; · iexact B3
      iexact B4
    isplitl [Hg]; · iexact Hg
    isplitl [L0]; · iexact L0
    isplitl [L1]; · iexact L1
    isplitl [L2]; · iexact L2
    isplitl [L3]; · iexact L3
    iexact L4
  isplitl [Hx]; · iexact Hx
  iexact Ho

end Cert.KernelIdeal.AR

end
-- ==== Proof.Buffers.lean ====
/- The buffers a kernel is given, cut into the parts that its steps use, and put together again at its end. -/
module

public import proofs.«01_k».proof.Proof.Body

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16)
variable {c : Dev nD} {j : Fin 4}

/-! ## Whole buffers -/

/-- A whole buffer's memory. -/
abbrev Mem {s : Shape} {e : EltTy} (M : Memref sig .tc .vmem s e) (c : Dev nD) : sProp (MT nD τ sig Unit (Elt F) ℕ UU ℕ) :=
  iprop(∃ f : Buf (Elt F) (M.view.loc (c : Thread nD τ)), M.view.loc (c : Thread nD τ) ↦{fullShare} f)

theorem whole_set {s : Shape} {e : EltTy} {M : Memref sig .tc .vmem s e} (h : M.IsWhole) : M.view.setOn Finset.univ = Finset.univ := by
  rw [View.setOn_univ]
  obtain ⟨b, hsp, hs, he, h⟩ := h
  subst hs; subst he
  cases b; simp only at hsp
  cases hsp
  cases h
  exact View.set_whole _

theorem mem_ownE {s : Shape} {e : EltTy} {M : Memref sig .tc .vmem s e} (h : M.IsWhole) : (Mem M c : sProp 𝕄) ⊢ OwnE M c Finset.univ := by
  unfold Mem OwnE Own
  iintro ⟨%f, H⟩
  iexists (M.view.read (Elt F) f)
  iexists f
  isplitr; · ipureintro; exact fun _ _ => rfl
  rw [whole_set h]; iexact H
theorem ownE_mem {s : Shape} {e : EltTy} {M : Memref sig .tc .vmem s e} (h : M.IsWhole) : (OwnE M c Finset.univ : sProp 𝕄) ⊢ Mem M c := by
  unfold Mem OwnE Own
  rw [whole_set h]
  iintro ⟨%v, %f, -, H⟩
  iexists f; iexact H

/-! ## Columns -/

/-- The columns before `b`. -/
def colsTo (b : ℕ) : Finset S512x512.Idx := Finset.univ.filter fun i => (i 1).val < b
theorem mem_colsTo {b : ℕ} {i : S512x512.Idx} : i ∈ colsTo b ↔ (i 1).val < b := by
  unfold colsTo; rw [Finset.mem_filter]; exact ⟨fun h => h.2, fun h => ⟨Finset.mem_univ _, h⟩⟩
theorem colsTo_all : colsTo 512 = Finset.univ := by
  ext i; rw [mem_colsTo]; exact ⟨fun _ => Finset.mem_univ _, fun _ => (i 1).isLt⟩
theorem colsTo_next (j : Fin 4) (b b' : ℕ) (hb : b = 128 * j.val) (hb' : b' = b + 128) (i : S512x512.Idx) :
    i ∈ colsTo b' ↔ i ∈ colsTo b ∨ i ∈ cols j := by
  have hi : (i 0).val < 512 := (i 0).isLt
  rw [mem_colsTo, mem_colsTo, mem_rowsA]; omega
theorem colsTo_disj (j : Fin 4) (b : ℕ) (hb : b = 128 * j.val) : Disjoint (colsTo b) (cols j) := by
  rw [Finset.disjoint_left]; intro i h1 h2; rw [mem_colsTo] at h1; rw [mem_rowsA] at h2; omega
theorem colsTo_first : colsTo 128 = cols 0 := by
  ext i
  have hi : (i 0).val < 512 := (i 0).isLt
  rw [mem_colsTo, mem_rowsA]; show _ ↔ _ ∧ _ ∧ 128 * 0 ≤ _ ∧ _ < 128 * 0 + 128; omega

theorem star_four (Φ : Fin 4 → sProp 𝕄) : star Φ = iprop(Φ 0 ∗ Φ 1 ∗ Φ 2 ∗ Φ 3) :=
  bigSep_univ_eq_bigSepL [0, 1, 2, 3] (by decide) (by decide) Φ

theorem cols_split {e : EltTy} {M : Memref sig .tc .vmem S512x512 e} :
    (OwnE M c Finset.univ : sProp 𝕄) ⊢ star fun j => OwnE M c (cols j) := by
  rw [star_four, ← colsTo_all, ← colsTo_first]
  iintro H
  ihave H := (ownE_split (colsTo_next 3 384 512 rfl rfl) (colsTo_disj 3 384 rfl)) $$ H
  icases H with ⟨H, H3⟩
  ihave H := (ownE_split (colsTo_next 2 256 384 rfl rfl) (colsTo_disj 2 256 rfl)) $$ H
  icases H with ⟨H, H2⟩
  ihave H := (ownE_split (colsTo_next 1 128 256 rfl rfl) (colsTo_disj 1 128 rfl)) $$ H
  icases H with ⟨H, H1⟩
  isplitl [H]; · iexact H
  isplitl [H1]; · iexact H1
  isplitl [H2]; · iexact H2
  iexact H3

theorem cols_joinE {e : EltTy} {M : Memref sig .tc .vmem S512x512 e} :
    (star fun j => OwnE M c (cols j) : sProp 𝕄) ⊢ OwnE M c Finset.univ := by
  rw [star_four, ← colsTo_all, ← colsTo_first]
  iintro ⟨H, H1, H2, H3⟩
  ihave H := (ownE_join (colsTo_next 1 128 256 rfl rfl) (colsTo_disj 1 128 rfl)) $$ [H H1]
  · isplitl [H] <;> iassumption
  ihave H := (ownE_join (colsTo_next 2 256 384 rfl rfl) (colsTo_disj 2 256 rfl)) $$ [H H2]
  · isplitl [H] <;> iassumption
  iapply (ownE_join (colsTo_next 3 384 512 rfl rfl) (colsTo_disj 3 384 rfl))
  isplitl [H] <;> iassumption

theorem cols_join {e : EltTy} {M : Memref sig .tc .vmem S512x512 e} {q : PosShare TreeShare} {v : S512x512.Idx → Elt F e} :
    (star fun j => Own M c (cols j) q v : sProp 𝕄) ⊢ Own M c Finset.univ q v := by
  rw [star_four, ← colsTo_all, ← colsTo_first]
  iintro ⟨H, H1, H2, H3⟩
  ihave H := (own_join (colsTo_next 1 128 256 rfl rfl) (colsTo_disj 1 128 rfl)) $$ [H H1]
  · isplitl [H] <;> iassumption
  ihave H := (own_join (colsTo_next 2 256 384 rfl rfl) (colsTo_disj 2 256 rfl)) $$ [H H2]
  · isplitl [H] <;> iassumption
  iapply (own_join (colsTo_next 3 384 512 rfl rfl) (colsTo_disj 3 384 rfl))
  isplitl [H] <;> iassumption

/-- The result of the kernel on device `c`. -/
def outF (c : Dev nD) : S512x512.Idx → Elt F .f32 := fun i => O X (Fin.ofNat 4 ((i 1).val / 128)) c i

theorem out_join : (star fun j => Own oM c (cols j) fullShare (O X j c) : sProp 𝕄) ⊢ Own oM c Finset.univ fullShare (outF X c) :=
  (bigSep_mono fun j _ => own_congr fun i hi => by
    rw [mem_rowsA] at hi
    have hj := j.2
    unfold outF
    congr 1
    exact Fin.ext (by show _ = ((i 1).val / 128) % 4; omega)).trans cols_join

/-! ## Piece buffers -/

theorem zone_iff {b a w : ℕ} (h : a + w = b) (i : S576x128.Idx) : i ∈ rowsZ 0 b ↔ i ∈ rowsZ 0 a ∨ i ∈ rowsZ a w := by
  rw [mem_rowsZ, mem_rowsZ, mem_rowsZ]; omega
theorem zone_disj {a w : ℕ} : Disjoint (rowsZ 0 a) (rowsZ a w) := by
  rw [Finset.disjoint_left]; intro i h1 h2; rw [mem_rowsZ] at h1 h2; omega
theorem zone_all : rowsZ 0 576 = Finset.univ := by
  ext i; rw [mem_rowsZ]; exact ⟨fun _ => Finset.mem_univ _, fun _ => ⟨Nat.zero_le _, by have : (i 0).val < 576 := (i 0).isLt; omega⟩⟩

/-- A piece buffer's five runs of rows. -/
def Zones (M : Memref sig .tc .vmem S576x128 .bf16) (c : Dev nD) : sProp 𝕄 :=
  iprop(OwnE (M.slice (zR 256 0 z0) (fun _ => rfl)) c Finset.univ ∗ OwnE (M.slice (zR 128 256 z1) (fun _ => rfl)) c Finset.univ
    ∗ OwnE (M.slice (zR 64 384 z2) (fun _ => rfl)) c Finset.univ ∗ OwnE (M.slice (zR 64 448 z3) (fun _ => rfl)) c Finset.univ
    ∗ OwnE (M.slice (zR 64 512 z4) (fun _ => rfl)) c Finset.univ)

theorem zone_slice {M : Memref sig .tc .vmem S576x128 .bf16} {w z : ℕ} (hz : ∀ a, (![z, 0] : Fin 2 → ℕ) a + (Sq w).size a ≤ S576x128.size a) :
    (OwnE M c (rowsZ z w) : sProp 𝕄) ⊢ OwnE (M.slice (zR w z hz) (fun _ => rfl)) c Finset.univ := by
  rw [← zR_set hz]; exact ownE_slice _ _
theorem zone_unslice {M : Memref sig .tc .vmem S576x128 .bf16} (d : Elt F .bf16) {w z : ℕ}
    (hz : ∀ a, (![z, 0] : Fin 2 → ℕ) a + (Sq w).size a ≤ S576x128.size a) :
    (OwnE (M.slice (zR w z hz) (fun _ => rfl)) c Finset.univ : sProp 𝕄) ⊢ OwnE M c (rowsZ z w) := by
  rw [← zR_set hz]; exact ownE_unslice _ _ d

theorem zones_split {M : Memref sig .tc .vmem S576x128 .bf16} : (OwnE M c Finset.univ : sProp 𝕄) ⊢ Zones M c := by
  rw [← zone_all]
  unfold Zones
  iintro H
  ihave H := (ownE_split (zone_iff (a := 512) (w := 64) rfl) zone_disj) $$ H
  icases H with ⟨H, H4⟩
  ihave H := (ownE_split (zone_iff (a := 448) (w := 64) rfl) zone_disj) $$ H
  icases H with ⟨H, H3⟩
  ihave H := (ownE_split (zone_iff (a := 384) (w := 64) rfl) zone_disj) $$ H
  icases H with ⟨H, H2⟩
  ihave H := (ownE_split (zone_iff (a := 256) (w := 128) rfl) zone_disj) $$ H
  icases H with ⟨H, H1⟩
  isplitl [H]; · iapply (zone_slice z0); iexact H
  isplitl [H1]; · iapply (zone_slice z1); iexact H1
  isplitl [H2]; · iapply (zone_slice z2); iexact H2
  isplitl [H3]; · iapply (zone_slice z3); iexact H3
  iapply (zone_slice z4); iexact H4

theorem zones_join {M : Memref sig .tc .vmem S576x128 .bf16} (d : Elt F .bf16) : (Zones M c : sProp 𝕄) ⊢ OwnE M c Finset.univ := by
  rw [← zone_all]
  unfold Zones
  iintro ⟨H, H1, H2, H3, H4⟩
  ihave H := (zone_unslice d z0) $$ H
  ihave H1 := (zone_unslice d z1) $$ H1
  ihave H2 := (zone_unslice d z2) $$ H2
  ihave H3 := (zone_unslice d z3) $$ H3
  ihave H4 := (zone_unslice d z4) $$ H4
  ihave H := (ownE_join (zone_iff (a := 256) (w := 128) rfl) zone_disj) $$ [H H1]
  · isplitl [H] <;> iassumption
  ihave H := (ownE_join (zone_iff (a := 384) (w := 64) rfl) zone_disj) $$ [H H2]
  · isplitl [H] <;> iassumption
  ihave H := (ownE_join (zone_iff (a := 448) (w := 64) rfl) zone_disj) $$ [H H3]
  · isplitl [H] <;> iassumption
  iapply (ownE_join (zone_iff (a := 512) (w := 64) rfl) zone_disj)
  isplitl [H] <;> iassumption

/-! ## Gathered rows -/

/-- Two neighbouring runs of rows, apart. -/
theorem rows_split {M : Memref sig .tc .vmem S512x128 .bf16} {a a' b w u : ℕ} (h : a' + a = 2 * b + w) (hc : a = b ∨ a = b + w) (hu : u = 2 * w) :
    (OwnE M c (rowsG b u) : sProp 𝕄) ⊢ iprop(OwnE M c (rowsG a w) ∗ OwnE M c (rowsG a' w)) := by
  refine ownE_split (fun i => ?_) ?_
  · rw [mem_rowsG, mem_rowsG, mem_rowsG]; omega
  · rw [Finset.disjoint_left]; intro i h1 h2; rw [mem_rowsG] at h1 h2; omega

theorem rows_all : rowsG 0 512 = Finset.univ := by
  ext i; rw [mem_rowsG]; exact ⟨fun _ => Finset.mem_univ _, fun _ => ⟨Nat.zero_le _, by have : (i 0).val < 512 := (i 0).isLt; omega⟩⟩

theorem rows_slice {w a : ℕ} {g : Fin 2 → ℕ} {hg : ∀ b, g b + (Sq w).size b ≤ S512x128.size b} (h : g = ![a, 0]) :
    (OwnE (gM j) c (rowsG a w) : sProp 𝕄) ⊢ OwnE ((gM j).slice (gR w g hg) (fun _ => rfl)) c Finset.univ := by
  rw [← gR_set h hg]; exact ownE_slice _ _

/-- The rows a device writes first, and those its partners write. -/
theorem rows_deal : (OwnE (gM j) c Finset.univ : sProp 𝕄)
    ⊢ iprop(OwnE (gM j) c (rowsG (row3 j c) 64) ∗ LZ j 5 c ∗ LZ j 6 c ∗ LZ j 7 c) := by
  rw [← rows_all]
  iintro H
  ihave H := (rows_split (w := 256) (u := 512) (b := 0) (a := row1 j c) (a' := row1 j (pr j 7 c))
    (by have := row0_pr7 j c; omega) (by have := row1_cases j c; omega) rfl) $$ H
  icases H with ⟨H, H7⟩
  ihave H := (rows_split (w := 128) (row1_pr6 j c) (row2_cases j c) rfl) $$ H
  icases H with ⟨H, H6⟩
  ihave H := (rows_split (w := 64) (row2_pr5 j c) (row3_cases j c) rfl) $$ H
  icases H with ⟨H, H5⟩
  isplitl [H]; · iexact H
  isplitl [H5]
  · iapply (show (OwnE (gM j) c (rowsG (row3 j (pr j 5 c)) 64) : sProp 𝕄) ⊢ LZ j 5 c from rows_slice (gH3_eq j (pr j 5 c))); iexact H5
  isplitl [H6]
  · iapply (show (OwnE (gM j) c (rowsG (row2 j (pr j 6 c)) 128) : sProp 𝕄) ⊢ LZ j 6 c from rows_slice (gH2_eq j (pr j 6 c))); iexact H6
  · iapply (show (OwnE (gM j) c (rowsG (row1 j (pr j 7 c)) 256) : sProp 𝕄) ⊢ LZ j 7 c from rows_slice (gH1_eq j (pr j 7 c))); iexact H7

/-! ## One chain's buffers -/

/-- One chain's three buffers. -/
def Scr (c : Dev nD) (j : Fin 4) : sProp 𝕄 := iprop(Mem (stM j) c ∗ Mem (rcM j) c ∗ Mem (gM j) c)

theorem st_zones : (Zones (stM j) c : sProp 𝕄) ⊢ iprop(Src c j 0 ∗ Src c j 1 ∗ Src c j 2 ∗ Src c j 3 ∗ Src c j 4) := Entails.refl _
theorem rc_zones : (Zones (rcM j) c : sProp 𝕄) ⊢ iprop(LZ j 0 c ∗ LZ j 1 c ∗ LZ j 2 c ∗ LZ j 3 c ∗ LZ j 4 c) := Entails.refl _
theorem zones_rc : (iprop(LZ j 0 c ∗ LZ j 1 c ∗ LZ j 2 c ∗ LZ j 3 c ∗ LZ j 4 c) : sProp 𝕄) ⊢ Zones (rcM j) c := Entails.refl _
theorem zones_st : (iprop(Src c j 0 ∗ Src c j 1 ∗ Src c j 2 ∗ Src c j 3 ∗ Src c j 4) : sProp 𝕄) ⊢ Zones (stM j) c := Entails.refl _
theorem pay_src (r : Fin 8) (h : shr r = fullShare) : (sendPay X c j r : sProp 𝕄) ⊢ Src c j r := by
  unfold sendPay Src; rw [h]; exact own_ownE

theorem scr_deal : (Scr c j : sProp 𝕄) ⊢ iprop((Src c j 0 ∗ Src c j 1 ∗ Src c j 2 ∗ Src c j 3 ∗ Src c j 4)
    ∗ OwnE (gM j) c (rowsG (row3 j c) 64)
    ∗ LZ j 0 c ∗ LZ j 1 c ∗ LZ j 2 c ∗ LZ j 3 c ∗ LZ j 4 c ∗ LZ j 5 c ∗ LZ j 6 c ∗ LZ j 7 c) := by
  unfold Scr
  iintro ⟨Hs, Hr, Hg⟩
  ihave Hs := (mem_ownE (stM_whole j)) $$ Hs
  ihave Hs := zones_split $$ Hs
  ihave Hs := st_zones $$ Hs
  ihave Hr := (mem_ownE (rcM_whole j)) $$ Hr
  ihave Hr := zones_split $$ Hr
  ihave Hr := rc_zones $$ Hr
  ihave Hg := (mem_ownE (gM_whole j)) $$ Hg
  ihave Hg := rows_deal $$ Hg
  icases Hg with ⟨Hg, H5, H6, H7⟩
  icases Hr with ⟨H0, H1, H2, H3, H4⟩
  isplitl [Hs]; · iexact Hs
  isplitl [Hg]; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem scr_back (d : Elt F .bf16) :
    iprop((sendPay X c j 0 ∗ sendPay X c j 1 ∗ sendPay X c j 2 ∗ sendPay X c j 3 ∗ sendPay X c j 4)
      ∗ OwnE (gM j) c Finset.univ ∗ LZ j 0 c ∗ LZ j 1 c ∗ LZ j 2 c ∗ LZ j 3 c ∗ LZ j 4 c) ⊢ (Scr c j : sProp 𝕄) := by
  unfold Scr
  iintro ⟨⟨S0, S1, S2, S3, S4⟩, Hg, Hr⟩
  ihave Hr := zones_rc $$ Hr
  ihave Hr := (zones_join d) $$ Hr
  isplitr [Hr Hg]
  · iapply (ownE_mem (stM_whole j))
    iapply (zones_join d)
    iapply zones_st
    isplitl [S0]; · iapply (pay_src X 0 rfl); iexact S0
    isplitl [S1]; · iapply (pay_src X 1 rfl); iexact S1
    isplitl [S2]; · iapply (pay_src X 2 rfl); iexact S2
    isplitl [S3]; · iapply (pay_src X 3 rfl); iexact S3
    iapply (pay_src X 4 rfl); iexact S4
  isplitl [Hr]
  · iapply (ownE_mem (rcM_whole j)); iexact Hr
  · iapply (ownE_mem (gM_whole j)); iexact Hg

theorem scr_deal4 : (star (Scr c) : sProp 𝕄)
    ⊢ iprop((star (fun j => Src c j 0) ∗ star (fun j => Src c j 1) ∗ star (fun j => Src c j 2) ∗ star (fun j => Src c j 3) ∗ star (fun j => Src c j 4))
      ∗ star (fun j => OwnE (gM j) c (rowsG (row3 j c) 64))
      ∗ star (fun j => LZ j 0 c) ∗ star (fun j => LZ j 1 c) ∗ star (fun j => LZ j 2 c) ∗ star (fun j => LZ j 3 c) ∗ star (fun j => LZ j 4 c)
      ∗ star (fun j => LZ j 5 c) ∗ star (fun j => LZ j 6 c) ∗ star (fun j => LZ j 7 c)) := by
  simp only [star, ← bigSep_sep']; exact bigSep_mono fun j _ => scr_deal

theorem scr_back4 (d : Elt F .bf16) :
    iprop((star (fun j => sendPay X c j 0) ∗ star (fun j => sendPay X c j 1) ∗ star (fun j => sendPay X c j 2) ∗ star (fun j => sendPay X c j 3)
        ∗ star (fun j => sendPay X c j 4)) ∗ star (fun j => OwnE (gM j) c Finset.univ)
      ∗ star (fun j => LZ j 0 c) ∗ star (fun j => LZ j 1 c) ∗ star (fun j => LZ j 2 c) ∗ star (fun j => LZ j 3 c) ∗ star (fun j => LZ j 4 c))
      ⊢ (star (Scr c) : sProp 𝕄) := by
  simp only [star, ← bigSep_sep']; exact bigSep_mono fun j _ => scr_back X d

/-! ## All the scratch buffers -/

theorem scr_all : (Pipeline.scopedRest (Ix := Unit) (Name := ℕ) (U := UU) (Lvl := ℕ) (Val := Elt F) spec0 c : sProp 𝕄)
    ⊢ iprop(Mem aM c ∗ star (Scr c)) := by
  rw [scopedRest0_eq, star_four]
  iintro ⟨H0, H1, H2, H3, H4, H5, H6, H7, H8, H9, H10, H11, H12⟩
  isplitl [H0]; · iexact H0
  unfold Scr
  isplitl [H1 H2 H3]
  · isplitl [H1]; · iexact H1
    isplitl [H2]; · iexact H2
    iexact H3
  isplitl [H4 H5 H6]
  · isplitl [H4]; · iexact H4
    isplitl [H5]; · iexact H5
    iexact H6
  isplitl [H7 H8 H9]
  · isplitl [H7]; · iexact H7
    isplitl [H8]; · iexact H8
    iexact H9
  · isplitl [H10]; · iexact H10
    isplitl [H11]; · iexact H11
    iexact H12

theorem all_scr : iprop(Mem aM c ∗ star (Scr c))
    ⊢ (Pipeline.scopedRest (Ix := Unit) (Name := ℕ) (U := UU) (Lvl := ℕ) (Val := Elt F) spec0 c : sProp 𝕄) := by
  rw [scopedRest0_eq, star_four]
  unfold Scr
  iintro ⟨H0, ⟨H1, H2, H3⟩, ⟨H4, H5, H6⟩, ⟨H7, H8, H9⟩, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What the kernel starts with, cut up; -/
theorem buf_in : iprop(Pipeline.scopedRest (Ix := Unit) (Name := ℕ) (U := UU) (Lvl := ℕ) (Val := Elt F) spec0 c ∗ OwnE oM c Finset.univ)
    ⊢ (BufIn c : sProp 𝕄) := by
  unfold BufIn
  rw [by_rounds fun j r => LZ j r c]
  iintro ⟨H, Ho⟩
  ihave H := scr_all $$ H
  icases H with ⟨Ha, H⟩
  ihave Ha := (mem_ownE (Memref.isWhole_whole cc0_scratch0)) $$ Ha
  ihave H := scr_deal4 $$ H
  icases H with ⟨Hs, Hg, Hl⟩
  isplitl [Ha]; · iapply cols_split; iexact Ha
  isplitl [Ho]; · iapply cols_split; iexact Ho
  isplitl [Hs]; · iexact Hs
  isplitl [Hg]; · iexact Hg
  iexact Hl

/-- and what it ends with, whole again, with the result. -/
theorem buf_out : (BufOut X c : sProp 𝕄)
    ⊢ iprop(Pipeline.scopedRest (Ix := Unit) (Name := ℕ) (U := UU) (Lvl := ℕ) (Val := Elt F) spec0 c ∗ Own oM c Finset.univ fullShare (outF X c)) := by
  unfold BufOut
  iintro ⟨Ha, Ho, ⟨S0, S1, S2, S3, S4⟩, Hg, L0, L1, L2, L3, L4⟩
  isplitr [Ho]
  · iapply all_scr
    isplitl [Ha]
    · iapply (ownE_mem (Memref.isWhole_whole cc0_scratch0)); iapply cols_joinE; iexact Ha
    iapply (scr_back4 X (X c fun b => ⟨0, by match b with | 0 => decide | 1 => decide⟩))
    isplitl [S0 S1 S2 S3 S4]
    · isplitl [S0]; · iexact S0
      isplitl [S1]; · iexact S1
      isplitl [S2]; · iexact S2
      isplitl [S3]; · iexact S3
      iexact S4
    isplitl [Hg]; · iexact Hg
    isplitl [L0]; · iexact L0
    isplitl [L1]; · iexact L1
    isplitl [L2]; · iexact L2
    isplitl [L3]; · iexact L3
    iexact L4
  · iapply (out_join X); iexact Ho

end Cert.KernelIdeal.AR

end
-- ==== Proof.Ghost.lean ====
/- The protocol's state at the launch: every semaphore's record is made, the rights to pay are handed to the devices that
   pay, and each device gets the credit for what the others owe it. -/
module

public import proofs.«01_k».proof.Proof.Body

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S512x512.Idx → Elt F .bf16)

/-! ## Stars over a device's semaphores -/

abbrev Oi : Type := Bool × Fin 4 × Fin 8
abbrev Cp : Type := Fin 4 × Fin 8

theorem star_opt (Φ : Ci → sProp 𝕄) :
    bigSep Finset.univ Φ = iprop(Φ none ∗ bigSep Finset.univ fun x : Oi => Φ (some x)) := by
  rw [bigSep_univ_at Φ none, show (Finset.univ : Finset Ci).erase none = (Finset.univ : Finset Oi).map Function.Embedding.some from by
    ext k; cases k <;> simp, bigSep_map]
  rfl
theorem star_bool (Φ : Oi → sProp 𝕄) :
    bigSep Finset.univ Φ = iprop((bigSep Finset.univ fun x : Cp => Φ (false, x)) ∗ bigSep Finset.univ fun x : Cp => Φ (true, x)) := by
  rw [bigSep_univ_prod]
  exact bigSep_univ_eq_bigSepL [false, true] (by decide) (by decide) _

theorem ownSemFacts : Pipeline.OwnSemFacts cfg0.spec osem := by decide +kernel
theorem osem_inj : Function.Injective osem := ownSemFacts.inj

theorem csem_inj : Function.Injective csem := by
  intro k k' h
  match k, k' with
  | none, none => rfl
  | none, some x => exact absurd h (by obtain ⟨b, x⟩ := x; cases b <;> exact fun h => by cases h)
  | some x, none => exact absurd h (by obtain ⟨b, x⟩ := x; cases b <;> exact fun h => by cases h)
  | some x, some y => exact congrArg some (osem_inj h)

theorem kcell_inj : Function.Injective (kcell : Dev nD × Ci → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## The cells and the tokens -/

def arCells : Finset (GSem nD τ sig) := Finset.univ.map ⟨kcell, kcell_inj⟩

/-- The duties: five of a barrier, one of every other semaphore. -/
abbrev tokOf (x : Dev nD × (Fin 5 ⊕ Oi)) : GSem nD τ sig × ℕ × Fin 5 :=
  match x.2 with
  | .inl d => (barC x.1, 0, d)
  | .inr y => (kcell (x.1, some y), 0, 0)
theorem tokOf_inj : Function.Injective tokOf := by
  rintro ⟨c, k⟩ ⟨c', k'⟩ h
  have h1 : c = c' := by
    have := congrArg (fun x : GSem nD τ sig × ℕ × Fin 5 => x.1.1.1) h
    cases k <;> cases k' <;> exact this
  subst h1
  have h2 : k = k' := by
    match k, k' with
    | .inl d, .inl d' => exact congrArg Sum.inl (congrArg (fun x : GSem nD τ sig × ℕ × Fin 5 => x.2.2) h)
    | .inr y, .inr y' => exact congrArg Sum.inr (osem_inj (congrArg (fun x : GSem nD τ sig × ℕ × Fin 5 => x.1.2) h))
    | .inl d, .inr y =>
      exact absurd (csem_inj (a₁ := none) (a₂ := some y) (congrArg (fun x : GSem nD τ sig × ℕ × Fin 5 => x.1.2) h)) (fun h => by cases h)
    | .inr y, .inl d =>
      exact absurd (csem_inj (a₁ := some y) (a₂ := none) (congrArg (fun x : GSem nD τ sig × ℕ × Fin 5 => x.1.2) h)) (fun h => by cases h)
  rw [h2]
def arToks : Finset (GSem nD τ sig × ℕ × Fin 5) := Finset.univ.map ⟨tokOf, tokOf_inj⟩

/-- The rights to pay a device's own semaphores. -/
def toks (c : Dev nD) : sProp 𝕄 :=
  iprop((bigSep Finset.univ fun d : Fin 5 => dutyTok ER (barC c) 0 d)
    ∗ (bigSep Finset.univ fun x : Cp => dutyTok ER (sC c x.1 x.2) 0 (0 : Fin 5)) ∗ bigSep Finset.univ fun x : Cp => dutyTok ER (rC c x.1 x.2) 0 (0 : Fin 5))

/-- The rights a device pays with: its partners' semaphores, and its own sending ones. -/
def payToks (c : Dev nD) : sProp 𝕄 :=
  iprop((bigSep Finset.univ fun d : Fin 5 => dutyTok ER (barC (nb d c)) 0 d)
    ∗ (bigSep Finset.univ fun x : Cp => dutyTok ER (sC c x.1 x.2) 0 (0 : Fin 5))
    ∗ bigSep Finset.univ fun x : Cp => dutyTok ER (rC (pr x.1 x.2 c) x.1 x.2) 0 (0 : Fin 5))

/-- What the launch deals device `c`. -/
def G (c : Dev nD) : sProp 𝕄 :=
  iprop((bigSep Finset.univ fun k : Ci => roundState ER (Rd X) (kcell (c, k)) 0)
    ∗ (bigSep Finset.univ fun k : Ci => iprop(atPos ER (kcell (c, k)) 0 ∅ 0 ∗ reached ER (kcell (c, k)) 0)) ∗ toks c)

theorem fund_ar : BI.own (ER (initOf arCells arToks)) ⊢ (|==> bigSep Finset.univ (G X) : sProp 𝕄) := by
  have hX (Φ : GSem nD τ sig → sProp 𝕄) : bigSep arCells Φ = bigSep Finset.univ fun c : Dev nD => bigSep Finset.univ fun k : Ci => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    refine bigSep_congr fun c _ => ?_
    unfold toks
    rw [bigSep_univ_sum, star_bool]
    rfl
  iintro HX
  imod (Rounds.fund ER (Rd X) arCells arToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- A device's semaphores at zero are its own and the barrier. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [unscopedSems0_eq, star_opt]
  iintro ⟨HS, HB⟩
  isplitl [HB]; · iexact HB
  unfold Pipeline.ownSems0
  iexact HS

theorem zero_sems (c : Dev nD) : (Zero c : sProp 𝕄)
    ⊢ iprop(unscopedSems0 c ∗ Pipeline.ownSems0 (Ix := Unit) (Name := ℕ) (U := UU) (Lvl := ℕ) (Val := Elt F) (τ := τ) osem c) := by
  rw [unscopedSems0_eq]
  unfold Zero Pipeline.ownSems0
  rw [star_bool]
  exact Entails.refl _

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Ci => iprop(∃ κ : ℕ, cellInv ER (Rd X) κ (kcell (c, k))))
          ∗ (bigSep Finset.univ fun k : Ci => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ci => semVal (kcell (c, k)) 0) ∗ bigSep Finset.univ fun k : Ci => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Handing the rights round -/

def records (K : Dev nD × Ci → ℕ) : sProp 𝕄 :=
  iprop((bigSep Finset.univ fun ck : Dev nD × Ci => cellInv ER (Rd X) (K ck) (kcell ck))
    ∗ bigSep Finset.univ fun ck : Dev nD × Ci => reached ER (kcell ck) 0)
instance records_persistent (K : Dev nD × Ci → ℕ) : BI.Persistent (records X K) := by unfold records; infer_instance

/-- The places of a device in its own semaphores, and the rights it pays with. -/
def linear (c : Dev nD) : sProp 𝕄 := iprop((bigSep Finset.univ fun k : Ci => atPos ER (kcell (c, k)) 0 ∅ 0) ∗ payToks c)
def G' (c : Dev nD) : sProp 𝕄 := iprop(∃ K, records X K ∗ linear c)

/-- A star over devices and anything, each member's device moved along. -/
theorem star_move {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [star_comm, star_comm (fun c i => Φ (e i c) i)]
  exact bigSep_congr fun i _ => bigSep_univ_equiv (e i) fun c => Φ c i

theorem toks_around : (bigSep Finset.univ fun c : Dev nD => (toks c : sProp 𝕄)) = bigSep Finset.univ fun c : Dev nD => payToks c := by
  unfold toks payToks
  rw [bigSep_sep', bigSep_sep', bigSep_sep', bigSep_sep', star_move swap (fun c d => (dutyTok ER (barC c) 0 d : sProp 𝕄)),
    star_move (fun x : Cp => swap (dim x.1 x.2)) (fun c x => (dutyTok ER (rC c x.1 x.2) 0 (0 : Fin 5) : sProp 𝕄))]
  rfl

theorem star_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ci => iprop(∃ κ : ℕ, cellInv ER (Rd X) κ (kcell (c, k))))
          ∗ (bigSep Finset.univ fun k : Ci => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Ci => iprop(∃ κ : ℕ, cellInv ER (Rd X) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄)), toks_around]
  iintro ⟨HI, ⟨Hat, #HR⟩, Htok⟩
  ihave HK := (BI.bigSep_exists_pi Finset.univ (fun (ck : Dev nD × Ci) (κ : ℕ) => (cellInv ER (Rd X) κ (kcell ck) : sProp 𝕄))) $$ HI
  icases HK with ⟨%K, #HI⟩
  iapply (star_with (R := records X K) (Φ := fun c => linear c) fun c _ => (by
    unfold G'; iintro ⟨H1, H2⟩; iexists K; isplitl [H1] <;> iassumption))
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit for what is owed -/

theorem bar_iff {a b : Dev nD} : barC a = barC b ↔ a = b :=
  ⟨fun h => congrArg (fun g : GSem nD τ sig => g.1.1) h, fun h => h ▸ rfl⟩
theorem r_iff {a b : Dev nD} {j j' : Fin 4} {r r' : Fin 8} : rC a j r = rC b j' r' ↔ a = b ∧ j = j' ∧ r = r' := by
  constructor
  · intro h
    have := kcell_inj (a₁ := (a, some (true, j, r))) (a₂ := (b, some (true, j', r'))) h
    cases this; exact ⟨rfl, rfl, rfl⟩
  · rintro ⟨rfl, rfl, rfl⟩; rfl
theorem bar_ne_r {a b : Dev nD} {j : Fin 4} {r : Fin 8} : barC a ≠ rC b j r := fun h => by
  have := congrArg Prod.snd h; cases this

theorem tally_eq (g h : GSem nD τ sig) (n : ℕ) : (tallyAt h () n : CellTallies nD τ sig Unit) g () = if g = h then n else 0 := by
  rw [tallyAt_apply]; simp only [and_true]

theorem sum_apply (f : ℕ → CellTallies nD τ sig Unit) (g : GSem nD τ sig) (n : ℕ) :
    (∑ i ∈ Finset.range n, f i) g () = ∑ i ∈ Finset.range n, f i g () := by
  induction n with
  | zero => rfl
  | succ n ih => rw [Finset.sum_range_succ, Finset.sum_range_succ, Pi.add_apply, Finsupp.add_apply, ih]

/-- What all devices owe a barrier; -/
theorem owed_bar (c : Dev nD) : ∑ d : Dev nD, oweB d 5 (barC c) () = 5 := by
  have h (d : Dev nD) : oweB d 5 (barC c) () = ∑ i ∈ Finset.range 5, if d = nb (Fin.ofNat 5 (4 - i)) c then 1 else 0 := by
    unfold oweB owe
    rw [Pi.add_apply, Finsupp.add_apply, sum_apply, sum_apply, Finset.sum_eq_zero fun i _ => by unfold oweF; rw [tally_eq, if_neg bar_ne_r], Nat.zero_add]
    refine Finset.sum_congr rfl fun i _ => ?_
    rw [tally_eq]
    refine if_congr ?_ rfl rfl
    rw [bar_iff]
    exact ⟨fun h => by rw [h, nb_nb], fun h => by rw [h, nb_nb]⟩
  rw [Finset.sum_congr rfl fun d _ => h d, Finset.sum_comm, Finset.sum_congr rfl fun i _ => by
    rw [Finset.sum_ite_eq' Finset.univ (nb (Fin.ofNat 5 (4 - i)) c) fun _ => 1, if_pos (Finset.mem_univ _)]]
  rfl

/-- and a receiving semaphore. -/
theorem owed_r (c : Dev nD) (j : Fin 4) (r : Fin 8) : ∑ d : Dev nD, oweB d 5 (rC c j r) () = amt r := by
  have hj := j.2; have hr := r.2
  have h (d : Dev nD) : oweB d 5 (rC c j r) () = if d = pr j r c then amt r else 0 := by
    unfold oweB owe
    rw [Pi.add_apply, Finsupp.add_apply, sum_apply, sum_apply,
      Finset.sum_eq_zero (s := Finset.range 5) fun i _ => by rw [tally_eq, if_neg fun h => bar_ne_r h.symm], Nat.add_zero,
      Finset.sum_eq_single (31 - (4 * r.val + j.val))]
    · have h1 : cpJ (31 - (31 - (4 * r.val + j.val))) = j := Fin.ext (by show (31 - (31 - (4 * r.val + j.val))) % 4 = _; omega)
      have h2 : cpR (31 - (31 - (4 * r.val + j.val))) = r := Fin.ext (by show (31 - (31 - (4 * r.val + j.val))) / 4 % 8 = _; omega)
      unfold oweF
      rw [h1, h2, tally_eq]
      refine if_congr ?_ rfl rfl
      rw [r_iff]
      exact ⟨fun h => by rw [h.1, pr_pr], fun h => ⟨by rw [h, pr_pr], rfl, rfl⟩⟩
    · intro i hi hn
      rw [Finset.mem_range] at hi
      unfold oweF
      rw [tally_eq, if_neg]
      rw [r_iff]
      rintro ⟨-, h1, h2⟩
      have h1 : j.val = (31 - i) % 4 := congrArg Fin.val h1
      have h2 : r.val = (31 - i) / 4 % 8 := congrArg Fin.val h2
      omega
    · intro hn
      exact absurd (Finset.mem_range.mpr (by omega)) hn
  rw [Finset.sum_congr rfl fun d _ => h d, Finset.sum_ite_eq' Finset.univ (pr j r c) fun _ => amt r, if_pos (Finset.mem_univ _)]

theorem launch_at (g : GSem nD τ sig) (n : ℕ) (h : ∑ d : Dev nD, oweB d 5 g () = n) :
    tallyOn g (launchCredit (Pipeline.owing fun c => oweB c 5) 0 g) = (tallyAt g () n : CellTallies nD τ sig Unit) := by
  unfold tallyAt; refine congrArg _ (Finsupp.ext fun u => ?_); cases u
  rw [Pipeline.launchCredit_owing, Finsupp.single_eq_same, h]

theorem creds (c : Dev nD) :
    (Pipeline.launchCred (fun c => oweB c 5) c : sProp 𝕄)
      ⊢ iprop(cred (tallyAt (barC c) () 5) ∗ bigSep Finset.univ fun x : Cp => cred (tallyAt (rC c x.1 x.2) () (amt x.2))) := by
  have e (Φ : SemLoc sig → sProp 𝕄) : bigSep Finset.univ Φ
      ⊢ iprop(Φ (.reg barS) ∗ (bigSep Finset.univ fun x : Cp => Φ (.dma (sS x.1 x.2))) ∗ bigSep Finset.univ fun x : Cp => Φ (.dma (rS x.1 x.2))) := by
    have h := bigSep_subset (Finset.subset_univ (Finset.univ.map ⟨csem, csem_inj⟩)) (Φ := Φ)
    rw [bigSep_map, star_opt, star_bool] at h
    exact h
  have h2 (x : Cp) := congrArg (fun t => (cred t : sProp 𝕄)) (launch_at (rC c x.1 x.2) (amt x.2) (owed_r c x.1 x.2))
  unfold Pipeline.launchCred
  iintro H
  ihave H := (e _) $$ H
  icases H with ⟨H, -, H'⟩
  isplitl [H]
  · iapply (Entails.of_eq (congrArg (fun t => (cred t : sProp 𝕄)) (launch_at (barC c) 5 (owed_bar c)))); iexact H
  · iapply (Entails.of_eq (bigSep_congr (s := Finset.univ) fun (x : Cp) _ => h2 x)); iexact H'

/-- All that a device's kernel starts the protocol with. -/
theorem proto_intro (c : Dev nD) :
    iprop(linear c ∗ cred (tallyAt (barC c) () 5) ∗ bigSep Finset.univ fun x : Cp => cred (tallyAt (rC c x.1 x.2) () (amt x.2))) ⊢ (Proto c : sProp 𝕄) := by
  unfold linear payToks Proto Tok Rcv
  rw [star_opt, star_bool]
  simp only [bigSep_sep']
  iintro ⟨⟨⟨Hb, Hs, Hr⟩, Ht, Hts, Htr⟩, Hc, Hcr⟩
  isplitl [Hb]; · iexact Hb
  isplitl [Hc]; · iexact Hc
  isplitl [Ht]; · iexact Ht
  isplitl [Hts Htr Hs]
  · isplitl [Hts]; · iexact Hts
    isplitl [Htr]; · iexact Htr
    iexact Hs
  isplitl [Hr]; · iexact Hr
  iexact Hcr

end Cert.KernelIdeal.AR

end
-- ==== Proof.Launch.lean ====
/- The launch of the kernel on all devices: every device's body meets the obligation of the pipeline around it, so the
   whole program runs to its end, with every device's result at the sums and every semaphore at zero. -/
module

public import proofs.«01_k».proof.Proof.Buffers
public import proofs.«01_k».proof.Proof.Ghost
public import Idealize.ShloMosaic.Lib.Pipeline.CollectiveSegs
public import Idealize.ShloMosaic.Lib.VecWindow

@[expose] public section

set_option maxRecDepth 16384

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The state at the launch: any memory, all counters at zero. -/
abbrev st0 : MemSt nD τ sig (Elt F) := ⟨m, fun _ => 0, ρ⟩

/-- Device `c`'s argument as the pipeline stages it. -/
def Xin (c : Dev nD) : S512x512.Idx → Elt F .bf16 :=
  (win0_0.blk (0 : Fin 1)).view.read (Elt F) (m ((c : Thread nD τ).loc main_arg0))

/-- What device `c`'s body starts from. -/
def start (c : Dev nD) : sProp 𝕄 :=
  iprop(G' (Xin m) c ∗ (cred (tallyAt (barC c) () 5) ∗ bigSep Finset.univ fun x : Cp => cred (tallyAt (rC c x.1 x.2) () (amt x.2))) ∗ levAts L lv)

abbrev Rest (c : Dev nD) : sProp (MT nD τ sig Unit (Elt F) ℕ UU ℕ) := Pipeline.scopedRest (Ix := Unit) (Name := ℕ) (U := UU) (Lvl := ℕ) (Val := Elt F) spec0 c

def Φ₀ (c : Dev nD) : sProp 𝕄 := iprop(start m c ∗ Rest c)
def Φ₁ (c : Dev nD) : sProp 𝕄 := iprop(Rest c ∗ Zero c)

def dats (_ : Fin 1) (c : Dev nD) : Dat τ (Elt F) Unit ℕ UU ℕ cfg0 c where
  A w := m ((cfg0.win w).arr.view.loc (c : Thread nD τ))
  after w _ := match w with
    | ⟨0, _⟩ => Xin m c
    | ⟨1, _⟩ => outF (Xin m) c
  Φ t := match t with
    | ⟨0, _⟩ => Φ₀ m c
    | ⟨_ + 1, _⟩ => Φ₁ c
  q _ := fullShare
  owed t := match t with
    | ⟨0, _⟩ => oweB c 5
    | ⟨_ + 1, _⟩ => 0

/-! ## The body -/

theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A staging buffer of device `c`, holding `v`. -/
abbrev Stg (c : Dev nD) (b : Ref sig .tc) (v : b.ty.Contents (Elt F)) : sProp (MT nD τ sig Unit (Elt F) ℕ UU ℕ) :=
  iprop(∃ f : Buf (Elt F) ((c : Thread nD τ).loc b), ⌜f = v⌝ ∗ (((c : Thread nD τ).loc b) ↦{fullShare} f))

theorem stg_x (c : Dev nD) (v : S512x512.Idx → Elt F .bf16) : (Stg c cc0_stg0_0 v : sProp 𝕄) ⊢ Own xM c Finset.univ fullShare v := by
  unfold Stg Own
  rw [whole_set (Memref.isWhole_whole cc0_stg0_0)]
  iintro ⟨%f, %hf, H⟩
  iexists f
  isplitr; · ipureintro; intro x _; rw [← hf]; rfl
  iexact H
theorem x_stg (c : Dev nD) (v : S512x512.Idx → Elt F .bf16) : (Own xM c Finset.univ fullShare v : sProp 𝕄) ⊢ Stg c cc0_stg0_0 v := by
  unfold Stg Own
  rw [whole_set (Memref.isWhole_whole cc0_stg0_0)]
  iintro ⟨%f, %hf, H⟩
  iexists f
  isplitr; · ipureintro; exact funext fun x => hf x (Finset.mem_univ _)
  iexact H
theorem o_stg (c : Dev nD) (v : S512x512.Idx → Elt F .f32) : (Own oM c Finset.univ fullShare v : sProp 𝕄) ⊢ Stg c cc0_stg1_0 v := by
  unfold Stg Own
  rw [whole_set (Memref.isWhole_whole cc0_stg1_0)]
  iintro ⟨%f, %hf, H⟩
  iexists f
  isplitr; · ipureintro; exact funext fun x => hf x (Finset.mem_univ _)
  iexact H
theorem stg_o (c : Dev nD) (v : S512x512.Idx → Elt F .f32) : (Stg c cc0_stg1_0 v : sProp 𝕄) ⊢ OwnE oM c Finset.univ := by
  have h : (Stg c cc0_stg1_0 v : sProp 𝕄) ⊢ Mem oM c := by
    unfold Stg Mem
    iintro ⟨%f, -, H⟩
    iexists f; iexact H
  exact h.trans (mem_ownE (Memref.isWhole_whole cc0_stg1_0))

theorem recs_intro (K : Dev nD × Ci → ℕ) (X : Dev nD → S512x512.Idx → Elt F .bf16) : iprop(records X K ∗ levAts L lv) ⊢ (Recs X K : sProp 𝕄) := by
  unfold records Recs
  iintro ⟨⟨H1, H2⟩, H3⟩
  isplitl [H1]; · iexact H1
  isplitl [H2]; · iexact H2
  iexact H3

def bodyPre (c : Dev nD) : sProp 𝕄 :=
  iprop(Φ₀ m c ∗ (dats m 0 c).owesAt () t0_0.castSucc
    ∗ (∃ d, Stg c cc0_stg0_0 ((dats m 0 c).before (0 : Fin 2) t0_0 d))
    ∗ (∃ d, Stg c cc0_stg1_0 ((dats m 0 c).before (1 : Fin 2) t0_0 d)))

def bodyPost (c : Dev nD) : sProp 𝕄 :=
  iprop(Φ₁ c ∗ (dats m 0 c).owesAt () t0_0.succ ∗ Stg c cc0_stg0_0 (Xin m c) ∗ Stg c cc0_stg1_0 (outF (Xin m) c))

theorem before_x (c : Dev nD) (d) : (dats m 0 c).before (0 : Fin 2) t0_0 d = Xin m c := by
  unfold Dat.before; rw [if_pos (fetch0_0 t0_0)]; rfl

theorem body_sound (c : Dev nD) : bodyPre m c ⊢ WP c (body F) (fun _ => bodyPost m c) := by
  unfold body
  unfold WP
  rw [wp_deviceId]
  unfold bodyPre Φ₀ start G' Dat.owesAt Pipeline.owesWithin
  rw [show (dats m 0 c).owed t0_0.castSucc = oweB c 5 from rfl]
  iintro ⟨⟨⟨⟨%K, Hrec, Hlin⟩, Hcr, Hlev⟩, Hrest⟩, ⟨%W, -, Ho⟩, ⟨%d0, Hx⟩, ⟨%d1, Hout⟩⟩
  rw [before_x]
  ihave Hx := (stg_x c _) $$ Hx
  ihave Hout := (stg_o c _) $$ Hout
  ihave HB := buf_in $$ [Hrest Hout]
  · isplitl [Hrest]; · iexact Hrest
    iexact Hout
  ihave HP := (proto_intro c) $$ [Hlin Hcr]
  · isplitl [Hlin]; · iexact Hlin
    iexact Hcr
  ihave HR := (recs_intro K (Xin m)) $$ [Hrec Hlev]
  · isplitl [Hrec]; · iexact Hrec
    iexact Hlev
  iapply (wp_rest (Xin m) K (c := c)) $$ [HB HP HR Hx Ho]
  · isplitl [HR]; · iexact HR
    isplitl [HP]; · iexact HP
    isplitl [HB]; · iexact HB
    isplitl [Hx]; · unfold Arg; iexact Hx
    iexists W; iexact Ho
  unfold Arg Ow
  rw [owe_32]
  iintro ⟨Hz, HB, Hx, ⟨%W', Ho⟩⟩
  ihave HB := (buf_out (Xin m)) $$ HB
  icases HB with ⟨Hrest, Hout⟩
  unfold bodyPost Φ₁ Dat.owesAt Pipeline.owesWithin
  rw [show (dats m 0 c).owed t0_0.succ = 0 from rfl]
  isplitl [Hrest Hz]
  · isplitl [Hrest]; · iexact Hrest
    iexact Hz
  isplitl [Ho]
  · iexists W'
    isplitr; · ipureintro; exact fun _ _ => Or.inl trivial
    iexact Ho
  isplitl [Hx]; · iapply x_stg; iexact Hx
  iapply o_stg; iexact Hout

/-- The pipeline's obligation for the body on device `c`. -/
theorem body_obligation (c : Dev nD) : BodyObligation (dats m 0 c) (defs₀ (F := F)) 𝒱₀ () Set.univ := fun t => by
  rw [fin_N0 t]
  rw [bigSep_W0, bigSep_W0]
  simp only [owns_whole]
  have h := body_sound m c
  rw [← body_eq] at h
  exact h

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => oweB c 5) c ∗ prngReg c (ρ c) ∗ G' (Xin m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  iintro ⟨Hr, Hz⟩
  ihave H := (zero_sems c) $$ Hz
  icases H with ⟨H1, H2⟩
  isplitl [H1]; · iexact H1
  isplitl [H2]; · iexact H2
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- The ghost state at the launch: the pipeline's cells and the kernel's own. -/
def u₀ : UU := (initOf (Pipeline.cells cfgs cellOf_inj) (Pipeline.launchToks cfgs cellOf_inj), initOf arCells arToks)

/-- What a window's array holds on device `c` at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- On the mesh of 32 devices, for any float values, from any memory with counters at zero: every fair execution of the
    program terminates, with each device's arrays at `finalA` and every semaphore counter at zero. -/
theorem run_arrays : θ_run defs (onTc (τ := τ) (main (F := F))) (st0 m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => oweB c 5) (howed₀ := fun _ => rfl) (howedN := fun _ => rfl)
    (L := L) (lv := lv) (hL := L_of_ne) (hwaits := waits m)
    (G := G (Xin m)) (G' := G' (Xin m)) (u₀ := u₀)
    (hu₀ := by
      unfold u₀
      iintro Hu
      ihave H := (ownU_pair _ _) $$ Hu
      icases H with ⟨HP, HX⟩
      imod (fund_ar (Xin m)) $$ HX with HG
      imodintro
      isplitl [HP] <;> iassumption)
    (hglob := glob (Xin m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem finalA_x (c : Dev nD) : finalA m c (0 : Fin 2) = m (win0_0.arr.view.loc (c : Thread nD τ)) :=
  (dats m 0 c).arrAt_in (0 : Fin 2) rfl _

/-- The pipeline stages the whole argument, -/
theorem Xin_eq (c : Dev nD) : Xin m c = m ((c : Thread nD τ).loc main_arg0) :=
  funext fun x => congrArg (m ((c : Thread nD τ).loc main_arg0)) (Rect.emb_unit_full (s := S512x512) _ x)

/-- and writes the whole result back. -/
theorem finalA_out (c : Dev nD) : finalA m c (1 : Fin 2) = outF (Xin m) c := by
  refine (dats m 0 c).arrAt_eq_of_cover 1 (outF (Xin m) c) (fun t _ => ?_) fun i => ⟨t0_0, flush0_1 _, ?_⟩
  · obtain rfl := fin_N0 t
    exact funext fun x => congrArg (outF (Xin m) c) (Rect.emb_unit_full (s := S512x512) _ x).symm
  · show i ∈ ((View.whole main_v1).slice (win0_1.rect t0_0)).set
    rw [View.set_slice_whole]
    exact (congrArg (· ∈ (win0_1.rect t0_0).set) (Rect.emb_unit_full (s := S512x512) _ i)).mp (emb_mem (win0_1.rect t0_0) i)

/-- Every device's result at the end is the sum its rounds have built, its argument is as it was, and every counter is
    at zero. -/
theorem run_main : θ_run defs (onTc (τ := τ) (main (F := F))) (st0 m ρ) (fun r =>
    (∀ c : Dev nD, r.2.mem ((c : Thread nD τ).loc main_v1) = outF (fun d : Dev nD => m ((d : Thread nD τ).loc main_arg0)) c
      ∧ r.2.mem ((c : Thread nD τ).loc main_arg0) = m ((c : Thread nD τ).loc main_arg0)) ∧ r.2.sem = fun _ => 0) :=
  (θ_run defs _ _).mono (fun r h => ⟨fun c => ⟨by
      have e := (h.1 c 1).trans (finalA_out m c)
      rw [show Xin m = fun d : Dev nD => m ((d : Thread nD τ).loc main_arg0) from funext (Xin_eq m)] at e
      exact e, (h.1 c 0).trans (finalA_x m c)⟩, h.2⟩) (run_arrays m ρ)

end Cert.KernelIdeal.AR

end
-- ==== Proof.Sum.lean ====
/- In exact arithmetic a device's result is the sum of all 32 devices' blocks, which is what the reference computes. -/
module

public import proofs.«01_k».proof.Proof.Buffers
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

set_option maxRecDepth 16384

noncomputable section

namespace Cert.KernelIdeal.AR

open Idealize.ShloMosaic Idealize.ShloMosaic.TcCoe
open Cert.KernelIdeal Cert.KernelIdeal.Gen

/-! ## The devices whose blocks a partial sum has -/

/-- After `n` rounds of chain `j`, device `c` has summed the blocks of these devices. -/
def reach (j : Fin 4) : ℕ → Dev nD → Finset (Dev nD)
  | 0, c => {c}
  | n + 1, c => reach j n c ∪ reach j n (pr j (Fin.ofNat 8 n) c)

theorem reach_disj : ∀ (n : Fin 5) (j : Fin 4) (c : Dev nD),
    Disjoint (reach j n.val c) (reach j n.val (pr j (Fin.ofNat 8 n.val) c)) := by decide +kernel
/-- After five rounds it has all of them. -/
theorem reach_all : ∀ (j : Fin 4) (c : Dev nD), reach j 5 c = Finset.univ := by decide +kernel

variable (X : Dev nD → S512x512.Idx → Elt Ideal .bf16)

/-- The exact sum of all devices' blocks. -/
def total (i : S512x512.Idx) : EReal := ∑ d : Dev nD, (X d i : EReal)

theorem T_ideal (j : Fin 4) (n : ℕ) (c : Dev nD) (i : S512x512.Idx) : (T X j n c i : EReal) = A X j n c i := by cases n <;> rfl

theorem A_reach (j : Fin 4) (i : S512x512.Idx) : ∀ n : ℕ, n ≤ 5 → ∀ c : Dev nD, (A X j n c i : EReal) = ∑ d ∈ reach j n c, (X d i : EReal)
  | 0, _, c => (Finset.sum_singleton (fun d => (X d i : EReal)) c).symm
  | n + 1, h, c => by
    rw [A_succ]
    show (A X j n c i : EReal) + (T X j n (pr j (Fin.ofNat 8 n) c) i : EReal) = _
    rw [T_ideal, A_reach j i n (by omega), A_reach j i n (by omega)]
    exact (Finset.sum_union (reach_disj ⟨n, by omega⟩ j c)).symm

/-- Every device's result is the sum. -/
theorem outF_ideal (c : Dev nD) : outF X c = total X := funext fun i => by
  show (T X _ 5 _ i : EReal) = _
  rw [T_ideal, A_reach X _ i 5 le_rfl, reach_all]
  rfl

/-! ## The reference -/

/-- The reference's result, from the whole argument. -/
abbrev refOut (v : (⟨2, ![16384, 512]⟩ : Shape).Idx → Elt Ideal .bf16) : S512x512.Idx → Elt Ideal .f32 :=
  Host.reduceAdd (extf (F := Ideal) .f32 (shapeCast _ v Cert.ReferenceIdeal.Gen.facts₀.shapeCasts_S16384x512_S32x512x512) Cert.ReferenceIdeal.Gen.facts₀.bitsLt_bf16_f32)
    (constant Cert.ReferenceIdeal.S_ .f32 0x00000000#32) Cert.ReferenceIdeal.Gen.facts₀.reducesTo_S32x512x512_S512x512_d0 Cert.ReferenceIdeal.Gen.facts₀.h_S_

/-- It is the sum of the 32 blocks of rows. -/
theorem refOut_eq (v : (⟨2, ![16384, 512]⟩ : Shape).Idx → Elt Ideal .bf16) :
    refOut v = total fun c => Layout.block ⟨2, ![512, 512]⟩ ⟨2, ![16384, 512]⟩ 0 32 c v := funext fun i => by
  unfold refOut
  rw [Host.reduceAdd_apply, Ideal.hostReduceAdd_def, Ideal.hostReduceAdd_r3_a0]
  rw [show (constant Cert.ReferenceIdeal.S_ .f32 0x00000000#32 : FVec Ideal _ .f32) (Shape.Idx.first Cert.ReferenceIdeal.Gen.facts₀.h_S_) = (0 : EReal) from Ideal.ofBits_zero_f32, zero_add]
  refine Finset.sum_congr rfl fun k _ => ?_
  refine shapeCast_apply v _ _ _ ?_
  rw [Shape.rowMajor_val_two, Shape.rowMajor_val_three, Layout.Tiles.idx_val, Layout.Tiles.idx_val]
  rfl

end Cert.KernelIdeal.AR

end
-- ==== Proof.Same.lean ====
/- The kernel and its idealized form are the same program, so at any one kind of numbers they have the same table of
   bodies. -/
module

public import proofs.«01_k».proof.Defs
public import proofs.«01_k».proof.Proof.Gen.Kernel
public import proofs.«01_k».proof.Proof.Gen.KernelIdeal

@[expose] public section

set_option maxRecDepth 65536

namespace Cert.Same

open Idealize.ShloMosaic

variable {F : FTy → Type} [FloatOps F]

theorem cc0_body : @Cert.Kernel.cc0_body F _ _ = @Cert.KernelIdeal.cc0_body F _ _ := by
  delta Cert.Kernel.cc0_body Cert.KernelIdeal.cc0_body; rfl

theorem defs₀ : Cert.Kernel.defs₀ (F := F) = Cert.KernelIdeal.defs₀ (F := F) := by
  delta Cert.Kernel.defs₀ Cert.KernelIdeal.defs₀
  refine congrArg (Defs.onTc (nD := 32) (τ := Cert.Kernel.τ) (sig := Cert.Kernel.sig) (Val := Elt F) (Λ := Cert.Kernel.Λ₀)) ?_
  funext ℓ x
  match ℓ, x with
  | 0, (t, s) => dsimp only; rw [cc0_body]
  | ⟨_ + 1, h⟩, _ => exact absurd h (Nat.not_lt.2 (Nat.le_add_left _ _))

theorem defs : Cert.Kernel.defs (F := F) = Cert.KernelIdeal.defs (F := F) := by
  delta Cert.Kernel.defs Cert.KernelIdeal.defs
  exact congrArg (Pipeline.defs (Cert.Kernel.pcfgs (F := F))) defs₀

end Cert.Same

end
-- ==== Proof.lean ====
/- The five claims about the all-reduce, put together: the run of the kernel (`Cert.KernelIdeal.AR.run_main`, once for
   any kind of float values) gives both of its frames; at the extended reals its result is the sum of the 32 blocks, which
   is also what the reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Sum
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two kernels have one text, so this is the same run with bits for numbers. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c).2, h.2⟩) (Cert.KernelIdeal.AR.run_main (F := Bits) m ρ)
  rw [← Cert.Same.defs] at h
  exact h

theorem frame_kernelIdeal : Cert.quiescent_KernelIdeal := fun m ρ _ =>
  (θ_run Cert.KernelIdeal.defs _ _).mono (fun _ h => ⟨fun c => (h.1 c).2, h.2⟩) (Cert.KernelIdeal.AR.run_main (F := Ideal) m ρ)

/-- The reference declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both end with the exact sum of the 32 devices' blocks. -/
theorem algebraic : Cert.algebraic_KernelIdeal_ReferenceIdeal := fun m g m' g' _ hag =>
  ⟨Cert.KernelIdeal.AR.total fun c => m ((c.tc : Thread Cert.KernelIdeal.nD Cert.KernelIdeal.τ).loc Cert.KernelIdeal.main_arg0),
    (θ_run Cert.KernelIdeal.defs _ _).mono (fun _ h c => ⟨(h.1 c).1.trans (Cert.KernelIdeal.AR.outF_ideal _ c), (h.1 c).2⟩)
      (Cert.KernelIdeal.AR.run_main (F := Ideal) m g),
    (θ_run Cert.ReferenceIdeal.defs _ _).mono (fun _ h =>
        ⟨(h 0).1.trans ((Cert.KernelIdeal.AR.refOut_eq _).trans (congrArg Cert.KernelIdeal.AR.total (funext fun c => (hag c).symm))), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
